-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_valid [hPre_indices_valid : Cert.Pre_indices_valid.Facts] (m : (ℓ : Loc Cert.KernelIdeal.nD Cert.KernelIdeal.τ Cert.KernelIdeal.sig) → Buf (Elt Ideal) ℓ) : Prop :=
  ∀ c : Dev Cert.KernelIdeal.nD,
    (Cert.Pre_indices_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_valid [hPre_indices_valid : Cert.Pre_indices_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_indices_valid [hKernelIdeal : Cert.KernelIdeal.Facts] [hPre_indices_valid : Cert.Pre_indices_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_indices_valid [hReferenceIdeal : Cert.ReferenceIdeal.Facts] [hPre_indices_valid : Cert.Pre_indices_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_indices_valid [hKernelIdeal : Cert.KernelIdeal.Facts] [hReferenceIdeal : Cert.ReferenceIdeal.Facts] [hPre_indices_valid : Cert.Pre_indices_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_indices_valid : Cert.Pre_indices_valid.Facts),
    quiescent_Kernel (hKernel := hKernel)
    ∧ quiescent_KernelIdeal (hKernelIdeal := hKernelIdeal)
    ∧ quiescent_KernelIdeal_pre_indices_valid (hKernelIdeal := hKernelIdeal) (hPre_indices_valid := hPre_indices_valid)
    ∧ quiescent_ReferenceIdeal (hReferenceIdeal := hReferenceIdeal)
    ∧ quiescent_ReferenceIdeal_pre_indices_valid (hReferenceIdeal := hReferenceIdeal) (hPre_indices_valid := hPre_indices_valid)
    ∧ preserves_Kernel_KernelIdeal
    ∧ algebraic_KernelIdeal_ReferenceIdeal_pre_indices_valid (hKernelIdeal := hKernelIdeal) (hReferenceIdeal := hReferenceIdeal) (hPre_indices_valid := hPre_indices_valid)
-- ==== Pre_indices_valid.lean ====
abbrev S16384x256 : Shape := ⟨2, ![16384, 256]⟩
abbrev S1x20 : Shape := ⟨2, ![1, 20]⟩
abbrev S256x512 : Shape := ⟨2, ![256, 512]⟩
abbrev S512 : Shape := ⟨1, ![512]⟩
abbrev S512x512 : Shape := ⟨2, ![512, 512]⟩
abbrev S512x20 : Shape := ⟨2, ![512, 20]⟩
abbrev S20 : Shape := ⟨1, ![20]⟩
abbrev S20x20 : Shape := ⟨2, ![20, 20]⟩
abbrev S20x1 : Shape := ⟨2, ![20, 1]⟩
abbrev S_ : Shape := ⟨0, ![]⟩

class Facts : Prop where
  bcast_S20_S20x1_0 : S20.BroadcastsInDim S20x1 (![0] : Fin 1 → Fin S20x1.rank)
  bcast_S20_S1x20_1 : S20.BroadcastsInDim S1x20 (![1] : Fin 1 → Fin S1x20.rank)
  bcast_S20x1_S20x20_0_1 : S20x1.BroadcastsInDim S20x20 (![0, 1] : Fin 2 → Fin S20x20.rank)
  bcast_S1x20_S20x20_0_1 : S1x20.BroadcastsInDim S20x20 (![0, 1] : Fin 2 → Fin S20x20.rank)
  bcast_S_S20 : S_.BroadcastsInDim S20 (![] : Fin 0 → Fin S20.rank)

variable [Facts]

def fn_part1 {F : FTy → Type} [FloatOps F] (main_arg12 : IVec S20 32) (main_v8 : IVec S20x20 1) (main_v15 : IVec S20x20 1) (main_v20 : IVec S20 1) (main_c_1 : IVec S_ 32) : IVec S20x20 1 :=
  let main_v21 : IVec S20 32 := broadcastInDim S20 ![] bcast_S_S20 main_c_1
  let main_v22 : IVec S20 1 := cmpi .sge main_arg12 main_v21
  let main_c_2 : IVec S_ 32 := constantI S_ 32 28#32
  let main_v23 : IVec S20 32 := broadcastInDim S20 ![] bcast_S_S20 main_c_2
  let main_v24 : IVec S20 1 := cmpi .slt main_arg12 main_v23
  let main_v25 : IVec S20 1 := andi main_v22 main_v24
  let main_v26 : IVec S20x20 1 := andi main_v8 main_v15
  let main_v27 : IVec S20 1 := andi main_v20 main_v25
  let main_v28 : IVec S20x1 1 := broadcastInDim S20x1 ![0] bcast_S20_S20x1_0 main_v27
  let main_v29 : IVec S20x20 1 := broadcastInDim S20x20 ![0, 1] bcast_S20x1_S20x20_0_1 main_v28
  let main_v30 : IVec S20x20 1 := andi main_v26 main_v29
  main_v30

def fn {F : FTy → Type} [FloatOps F] (main_arg0 : FVec F S16384x256 .f32) (main_arg1 : FVec F S1x20 .f32) (main_arg2 : FVec F S256x512 .f32) (main_arg3 : FVec F S512 .f32) (main_arg4 : FVec F S512x512 .f32) (main_arg5 : FVec F S512 .f32) (main_arg6 : FVec F S512x20 .f32) (main_arg7 : FVec F S20 .f32) (main_arg8 : IVec S20 32) (main_arg9 : IVec S20 32) (main_arg10 : FVec F S20 .f32) (main_arg11 : FVec F S20 .f32) (main_arg12 : IVec S20 32) : IVec S20x20 1 :=
  let main_v0 : IVec S20x20 32 := iotaInDim S20x20 32 0
  let main_v1 : IVec S20x20 32 := iotaInDim S20x20 32 1
  let main_v2 : IVec S20x1 32 := broadcastInDim S20x1 ![0] bcast_S20_S20x1_0 main_arg8
  let main_v3 : IVec S1x20 32 := broadcastInDim S1x20 ![1] bcast_S20_S1x20_1 main_arg8
  let main_v4 : IVec S20x20 32 := broadcastInDim S20x20 ![0, 1] bcast_S20x1_S20x20_0_1 main_v2
  let main_v5 : IVec S20x20 32 := broadcastInDim S20x20 ![0, 1] bcast_S1x20_S20x20_0_1 main_v3
  let main_v6 : IVec S20x20 1 := cmpi .ne main_v4 main_v5
  let main_v7 : IVec S20x20 1 := cmpi .eq main_v0 main_v1
  let main_v8 : IVec S20x20 1 := ori main_v6 main_v7
  let main_v9 : IVec S20x1 32 := broadcastInDim S20x1 ![0] bcast_S20_S20x1_0 main_arg9
  let main_v10 : IVec S1x20 32 := broadcastInDim S1x20 ![1] bcast_S20_S1x20_1 main_arg9
  let main_v11 : IVec S20x20 32 := broadcastInDim S20x20 ![0, 1] bcast_S20x1_S20x20_0_1 main_v9
  let main_v12 : IVec S20x20 32 := broadcastInDim S20x20 ![0, 1] bcast_S1x20_S20x20_0_1 main_v10
  let main_v13 : IVec S20x20 1 := cmpi .ne main_v11 main_v12
  let main_v14 : IVec S20x20 1 := cmpi .eq main_v0 main_v1
  let main_v15 : IVec S20x20 1 := ori main_v13 main_v14
  let main_c : IVec S_ 32 := constantI S_ 32 0#32
  let main_v16 : IVec S20 32 := broadcastInDim S20 ![] bcast_S_S20 main_c
  let main_v17 : IVec S20 1 := cmpi .sge main_arg8 main_v16
  let main_c_0 : IVec S_ 32 := constantI S_ 32 0#32
  let main_v18 : IVec S20 32 := broadcastInDim S20 ![] bcast_S_S20 main_c_0
  let main_v19 : IVec S20 1 := cmpi .sge main_arg9 main_v18
  let main_v20 : IVec S20 1 := andi main_v17 main_v19
  let main_c_1 : IVec S_ 32 := constantI S_ 32 0#32
  fn_part1 (F := F) main_arg12 main_v8 main_v15 main_v20 main_c_1
-- ==== Kernel.lean ====
abbrev S16384x256 : Shape := ⟨2, ![16384, 256]⟩
abbrev S1x20 : Shape := ⟨2, ![1, 20]⟩
abbrev S256x512 : Shape := ⟨2, ![256, 512]⟩
abbrev S512 : Shape := ⟨1, ![512]⟩
abbrev S512x512 : Shape := ⟨2, ![512, 512]⟩
abbrev S512x20 : Shape := ⟨2, ![512, 20]⟩
abbrev S20 : Shape := ⟨1, ![20]⟩
abbrev S1x512 : Shape := ⟨2, ![1, 512]⟩
abbrev S16384x24 : Shape := ⟨2, ![16384, 24]⟩
abbrev S4096x256 : Shape := ⟨2, ![4096, 256]⟩
abbrev S4096x24 : Shape := ⟨2, ![4096, 24]⟩
abbrev S512x24 : Shape := ⟨2, ![512, 24]⟩
abbrev S1x256 : Shape := ⟨2, ![1, 256]⟩
abbrev S1x24 : Shape := ⟨2, ![1, 24]⟩
abbrev S1x4 : Shape := ⟨2, ![1, 4]⟩
abbrev S28x20 : Shape := ⟨2, ![28, 20]⟩
abbrev S28x24 : Shape := ⟨2, ![28, 24]⟩
abbrev S20x24 : Shape := ⟨2, ![20, 24]⟩
abbrev S24 : Shape := ⟨1, ![24]⟩
abbrev S20x256 : Shape := ⟨2, ![20, 256]⟩
abbrev S4096x512 : Shape := ⟨2, ![4096, 512]⟩

abbrev nBuf : Space → Nat
  | .hbm => 22
  | .vmem => 23
  | .smem => 0
  | _ => 0

abbrev bufTy : (tb : Table) → Fin (tcTables nBuf tb) → BufTy
  | .hbm, ⟨0, _⟩ => ⟨S16384x256, .f32⟩
  | .hbm, ⟨1, _⟩ => ⟨S1x20, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x20, .f32⟩
  | .hbm, ⟨7, _⟩ => ⟨S20, .f32⟩
  | .hbm, ⟨8, _⟩ => ⟨S20, .i32⟩
  | .hbm, ⟨9, _⟩ => ⟨S20, .i32⟩
  | .hbm, ⟨10, _⟩ => ⟨S20, .f32⟩
  | .hbm, ⟨11, _⟩ => ⟨S20, .f32⟩
  | .hbm, ⟨12, _⟩ => ⟨S20, .i32⟩
  | .hbm, ⟨13, _⟩ => ⟨S1x512, .f32⟩
  | .hbm, ⟨14, _⟩ => ⟨S1x512, .f32⟩
  | .hbm, ⟨15, _⟩ => ⟨S1x20, .f32⟩
  | .hbm, ⟨16, _⟩ => ⟨S1x20, .i32⟩
  | .hbm, ⟨17, _⟩ => ⟨S1x20, .i32⟩
  | .hbm, ⟨18, _⟩ => ⟨S1x20, .f32⟩
  | .hbm, ⟨19, _⟩ => ⟨S1x20, .f32⟩
  | .hbm, ⟨20, _⟩ => ⟨S1x20, .i32⟩
  | .hbm, ⟨21, _⟩ => ⟨S16384x24, .f32⟩
  | .local _ .vmem, ⟨0, _⟩ => ⟨S4096x256, .f32⟩
  | .local _ .vmem, ⟨1, _⟩ => ⟨S4096x256, .f32⟩
  | .local _ .vmem, ⟨2, _⟩ => ⟨S1x20, .f32⟩
  | .local _ .vmem, ⟨3, _⟩ => ⟨S256x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S512x20, .f32⟩
  | .local _ .vmem, ⟨8, _⟩ => ⟨S1x20, .f32⟩
  | .local _ .vmem, ⟨9, _⟩ => ⟨S1x20, .i32⟩
  | .local _ .vmem, ⟨10, _⟩ => ⟨S1x20, .i32⟩
  | .local _ .vmem, ⟨11, _⟩ => ⟨S1x20, .f32⟩
  | .local _ .vmem, ⟨12, _⟩ => ⟨S1x20, .f32⟩
  | .local _ .vmem, ⟨13, _⟩ => ⟨S1x20, .i32⟩
  | .local _ .vmem, ⟨14, _⟩ => ⟨S4096x24, .f32⟩
  | .local _ .vmem, ⟨15, _⟩ => ⟨S4096x24, .f32⟩
  | .local _ .vmem, ⟨16, _⟩ => ⟨S256x512, .fp8e4m3⟩
  | .local _ .vmem, ⟨17, _⟩ => ⟨S512x512, .fp8e4m3⟩
  | .local _ .vmem, ⟨18, _⟩ => ⟨S512x24, .bf16⟩
  | .local _ .vmem, ⟨19, _⟩ => ⟨S1x256, .f32⟩
  | .local _ .vmem, ⟨20, _⟩ => ⟨S1x24, .f32⟩
  | .local _ .vmem, ⟨21, _⟩ => ⟨S1x512, .bf16⟩
  | .local _ .vmem, ⟨22, _⟩ => ⟨S1x512, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x20 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x20 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x24 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x256 : Shape := ⟨2, ![16384, 256]⟩
abbrev S1x20 : Shape := ⟨2, ![1, 20]⟩
abbrev S256x512 : Shape := ⟨2, ![256, 512]⟩
abbrev S512 : Shape := ⟨1, ![512]⟩
abbrev S512x512 : Shape := ⟨2, ![512, 512]⟩
abbrev S512x20 : Shape := ⟨2, ![512, 20]⟩
abbrev S20 : Shape := ⟨1, ![20]⟩
abbrev S16384x68 : Shape := ⟨2, ![16384, 68]⟩
abbrev S16384x168 : Shape := ⟨2, ![16384, 168]⟩
abbrev S16384x20 : Shape := ⟨2, ![16384, 20]⟩
abbrev S16384x512 : Shape := ⟨2, ![16384, 512]⟩
abbrev S1x512 : Shape := ⟨2, ![1, 512]⟩
abbrev S_ : Shape := ⟨0, ![]⟩
abbrev S16384x28 : Shape := ⟨2, ![16384, 28]⟩
abbrev S20x1 : Shape := ⟨2, ![20, 1]⟩
abbrev S1 : Shape := ⟨1, ![1]⟩
abbrev S1x1 : Shape := ⟨2, ![1, 1]⟩
abbrev S16384x4 : Shape := ⟨2, ![16384, 4]⟩
abbrev S16384x24 : Shape := ⟨2, ![16384, 24]⟩

abbrev nBuf : Space → Nat
  | .hbm => 84
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1x20, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x20, .f32⟩
  | .hbm, ⟨7, _⟩ => ⟨S20, .f32⟩
  | .hbm, ⟨8, _⟩ => ⟨S20, .i32⟩
  | .hbm, ⟨9, _⟩ => ⟨S20, .i32⟩
  | .hbm, ⟨10, _⟩ => ⟨S20, .f32⟩
  | .hbm, ⟨11, _⟩ => ⟨S20, .f32⟩
  | .hbm, ⟨12, _⟩ => ⟨S20, .i32⟩
  | .hbm, ⟨13, _⟩ => ⟨S16384x68, .f32⟩
  | .hbm, ⟨14, _⟩ => ⟨S16384x168, .f32⟩
  | .hbm, ⟨15, _⟩ => ⟨S16384x20, .f32⟩
  | .hbm, ⟨16, _⟩ => ⟨S16384x256, .f32⟩
  | .hbm, ⟨17, _⟩ => ⟨S16384x512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S1x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x20, .f32⟩
  | .hbm, ⟨28, _⟩ => ⟨S1x20, .f32⟩
  | .hbm, ⟨29, _⟩ => ⟨S16384x20, .f32⟩
  | .hbm, ⟨30, _⟩ => ⟨S16384x20, .f32⟩
  | .hbm, ⟨31, _⟩ => ⟨S_, .f32⟩
  | .hbm, ⟨32, _⟩ => ⟨S16384x28, .f32⟩
  | .hbm, ⟨33, _⟩ => ⟨S_, .i32⟩
  | .hbm, ⟨34, _⟩ => ⟨S20, .i32⟩
  | .hbm, ⟨35, _⟩ => ⟨S20, .i1⟩
  | .hbm, ⟨36, _⟩ => ⟨S_, .i32⟩
  | .hbm, ⟨37, _⟩ => ⟨S20, .i32⟩
  | .hbm, ⟨38, _⟩ => ⟨S20, .i32⟩
  | .hbm, ⟨39, _⟩ => ⟨S20, .i32⟩
  | .hbm, ⟨40, _⟩ => ⟨S20x1, .i32⟩
  | .hbm, ⟨41, _⟩ => ⟨S16384x20, .f32⟩
  | .hbm, ⟨42, _⟩ => ⟨S16384x28, .f32⟩
  | .hbm, ⟨43, _⟩ => ⟨S_, .f32⟩
  | .hbm, ⟨44, _⟩ => ⟨S16384x20, .f32⟩
  | .hbm, ⟨45, _⟩ => ⟨S16384x20, .f32⟩
  | .hbm, ⟨46, _⟩ => ⟨S1x20, .f32⟩
  | .hbm, ⟨47, _⟩ => ⟨S16384x20, .f32⟩
  | .hbm, ⟨48, _⟩ => ⟨S16384x20, .f32⟩
  | .hbm, ⟨49, _⟩ => ⟨S_, .i32⟩
  | .hbm, ⟨50, _⟩ => ⟨S20, .i32⟩
  | .hbm, ⟨51, _⟩ => ⟨S20, .i1⟩
  | .hbm, ⟨52, _⟩ => ⟨S_, .i32⟩
  | .hbm, ⟨53, _⟩ => ⟨S20, .i32⟩
  | .hbm, ⟨54, _⟩ => ⟨S20, .i32⟩
  | .hbm, ⟨55, _⟩ => ⟨S20, .i32⟩
  | .hbm, ⟨56, _⟩ => ⟨S20x1, .i32⟩
  | .hbm, ⟨57, _⟩ => ⟨S16384x28, .f32⟩
  | .hbm, ⟨58, _⟩ => ⟨S_, .i32⟩
  | .hbm, ⟨59, _⟩ => ⟨S20, .i32⟩
  | .hbm, ⟨60, _⟩ => ⟨S20, .i1⟩
  | .hbm, ⟨61, _⟩ => ⟨S_, .i32⟩
  | .hbm, ⟨62, _⟩ => ⟨S20, .i32⟩
  | .hbm, ⟨63, _⟩ => ⟨S20, .i32⟩
  | .hbm, ⟨64, _⟩ => ⟨S20, .i32⟩
  | .hbm, ⟨65, _⟩ => ⟨S20x1, .i32⟩
  | .hbm, ⟨66, _⟩ => ⟨S1, .i32⟩
  | .hbm, ⟨67, _⟩ => ⟨S_, .i32⟩
  | .hbm, ⟨68, _⟩ => ⟨S20x1, .i32⟩
  | .hbm, ⟨69, _⟩ => ⟨S20x1, .i1⟩
  | .hbm, ⟨70, _⟩ => ⟨S1x1, .i32⟩
  | .hbm, ⟨71, _⟩ => ⟨S20x1, .i32⟩
  | .hbm, ⟨72, _⟩ => ⟨S20x1, .i1⟩
  | .hbm, ⟨73, _⟩ => ⟨S20x1, .i1⟩
  | .hbm, ⟨74, _⟩ => ⟨S_, .i1⟩
  | .hbm, ⟨75, _⟩ => ⟨S20, .i1⟩
  | .hbm, ⟨76, _⟩ => ⟨S16384x20, .f32⟩
  | .hbm, ⟨77, _⟩ => ⟨S16384x20, .i1⟩
  | .hbm, ⟨78, _⟩ => ⟨S_, .f32⟩
  | .hbm, ⟨79, _⟩ => ⟨S16384x20, .f32⟩
  | .hbm, ⟨80, _⟩ => ⟨S16384x20, .f32⟩
  | .hbm, ⟨81, _⟩ => ⟨S_, .f32⟩
  | .hbm, ⟨82, _⟩ => ⟨S16384x4, .f32⟩
  | .hbm, ⟨83, _⟩ => ⟨S16384x24, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_2 : Ref sig .tc := ⟨.hbm, 49, rfl⟩
abbrev main_v32 : Ref sig .tc := ⟨.hbm, 50, rfl⟩
abbrev main_v33 : Ref sig .tc := ⟨.hbm, 51, rfl⟩
abbrev main_c_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_c : Ref sig .tc := ⟨.hbm, 58, rfl⟩
abbrev main_call0_v0 : Ref sig .tc := ⟨.hbm, 59, rfl⟩
abbrev main_call0_v1 : Ref sig .tc := ⟨.hbm, 60, rfl⟩
abbrev main_call0_c_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_c_1 : Ref sig .tc := ⟨.hbm, 66, rfl⟩
abbrev main_call0_c_2 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_3 : Ref sig .tc := ⟨.hbm, 74, rfl⟩
abbrev main_call0_v12 : Ref sig .tc := ⟨.hbm, 75, rfl⟩
abbrev main_call0_v13 : Ref sig .tc := ⟨.hbm, 76, rfl⟩
abbrev main_call0_v14 : Ref sig .tc := ⟨.hbm, 77, rfl⟩
abbrev main_call0_cst : Ref sig .tc := ⟨.hbm, 78, rfl⟩
abbrev main_call0_v15 : Ref sig .tc := ⟨.hbm, 79, rfl⟩
abbrev main_v39 : Ref sig .tc := ⟨.hbm, 80, rfl⟩
abbrev main_cst_4 : Ref sig .tc := ⟨.hbm, 81, rfl⟩
abbrev main_v40 : Ref sig .tc := ⟨.hbm, 82, rfl⟩
abbrev main_v41 : Ref sig .tc := ⟨.hbm, 83, rfl⟩

abbrev nD : Nat := 1
abbrev τ : Topo := Topo.v7x

variable {F : FTy → Type} [FloatOps F]
-- ==== Proof.Spec.lean ====
/-
  The mathematics that the kernel and the reference share, over the extended reals, with no program in it.

  The kernel picks columns by multiplying with matrices of zeros and ones. `sel a b` is one entry of such a product: it is 1 when the
  words `a` and `b` are equal and name one of the 28 columns, and 0 otherwise. The scale `tenth` is a nonnegative real, so it may be moved
  in and out of sums even where a summand is infinite. From these two facts follow the three readings of the folded last layer
  (`folded_hit`, `folded_default`, `folded_zero`).
-/
module

public import Idealize.ShloMosaic.Lib.Pointwise
public import Idealize.ShloMosaic.Lib.WordCmp
public import Mathlib.Data.EReal.Operations

@[expose] public section

noncomputable section

open Idealize.ShloMosaic

namespace Cert.Spec

/-! ## The scale -/

/-- The scale of the actions: the extended real that the constant 0.1 denotes. -/
def tenth : EReal := Ideal.ofBits .f32 0x3DCCCCCD#32

/-- The scale is the real 13421773 / 2 ^ 27. -/
theorem tenth_eq : tenth = ((13421773 / 134217728 : ℝ) : EReal) := by
  simp [tenth, Ideal.ofBits, Ideal.ieee, -EReal.coe_mul]; norm_num

/-- The scale is not negative. -/
theorem tenth_nonneg : 0 ≤ tenth := by
  rw [tenth_eq]; exact EReal.coe_nonneg.mpr (by norm_num)

/-- The scale is not infinite. -/
theorem tenth_ne_top : tenth ≠ ⊤ := by
  rw [tenth_eq]; exact EReal.coe_ne_top _

/-- A sum of two terms, scaled, is the sum of the scaled terms. -/
theorem add_mul_tenth (a b : EReal) : (a + b) * tenth = a * tenth + b * tenth :=
  EReal.right_distrib_of_nonneg_of_ne_top tenth_nonneg tenth_ne_top a b

/-- A finite sum, scaled, is the sum of the scaled terms. -/
theorem sum_mul_tenth {n : Nat} (f : Fin n → EReal) : (∑ k, f k) * tenth = ∑ k, f k * tenth := by
  classical
  have all : ∀ s : Finset (Fin n), (∑ k ∈ s, f k) * tenth = ∑ k ∈ s, f k * tenth := fun s => by
    induction s using Finset.induction_on with
    | empty => simp
    | insert a s ha ih => rw [Finset.sum_insert ha, Finset.sum_insert ha, add_mul_tenth, ih]
  exact all Finset.univ

/-! ## The selection by zeros and ones -/

/-- A comparison for equality, widened and converted to a float, is 1 where the words are equal and 0 elsewhere. -/
theorem indicator (a b : BitVec 32) :
    FloatOps.sitofp (F := Ideal) .f32 (BitVec.setWidth 32 (IntOp.cmpi .eq a b)) = if a = b then (1 : EReal) else 0 := by
  rw [WordCmp.cmpi_eq_eq]
  show (((BitVec.setWidth 32 (BitVec.ofBool (decide (a = b)))).toInt : ℝ) : EReal) = _
  by_cases h : a = b
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

/-- One entry of the product of two selection matrices over the 28 columns. -/
def sel (a b : BitVec 32) : EReal :=
  ∑ p : Fin 28, (if a = BitVec.ofNat 32 p.val then (1 : EReal) else 0) * (if b = BitVec.ofNat 32 p.val then (1 : EReal) else 0)

/-- Where the second word names no column, the entry is zero. -/
theorem sel_out (a b : BitVec 32) (hb : 28 ≤ b.toNat) : sel a b = 0 := by
  unfold sel
  refine Finset.sum_eq_zero fun p _ => ?_
  rw [if_neg (c := b = _), mul_zero]
  intro e
  have := p.isLt
  rw [e, BitVec.toNat_ofNat] at hb
  omega

/-- Where the second word names a column, the entry says whether the two words are equal. -/
theorem sel_in (a b : BitVec 32) (hb : b.toNat < 28) : sel a b = if a = b then 1 else 0 := by
  unfold sel
  have hbw : BitVec.ofNat 32 b.toNat = b := by simp
  rw [Finset.sum_eq_single (⟨b.toNat, hb⟩ : Fin 28)]
  · simp only [hbw, if_pos, mul_one]
  · intro p _ hp
    rw [if_neg (c := b = _), mul_zero]
    intro e
    apply hp
    apply Fin.ext
    have := p.isLt
    show p.val = b.toNat
    rw [e, BitVec.toNat_ofNat]
    omega
  · intro h; exact absurd (Finset.mem_univ _) h

/-- A sum against the indicator of a word that exactly one index holds is the term at that index. -/
theorem sum_pick {n : Nat} (f : Fin n → EReal) (w : Fin n → BitVec 32) (b : BitVec 32) (s : EReal) (j : Fin n) (hj : w j = b)
    (huniq : ∀ i, w i = b → i = j) : ∑ i, f i * ((if w i = b then (1 : EReal) else 0) * s) = f j * s := by
  rw [Finset.sum_eq_single j]
  · rw [if_pos hj, one_mul]
  · intro i _ hi
    rw [if_neg fun e => hi (huniq i e), zero_mul, mul_zero]
  · intro h; exact absurd (Finset.mem_univ _) h

/-- A sum against the indicator of a word that no index holds is zero. -/
theorem sum_pick_none {n : Nat} (f : Fin n → EReal) (w : Fin n → BitVec 32) (b : BitVec 32) (s : EReal)
    (hnone : ∀ i, w i ≠ b) : ∑ i, f i * ((if w i = b then (1 : EReal) else 0) * s) = 0 :=
  Finset.sum_eq_zero fun i _ => by rw [if_neg (hnone i), zero_mul, mul_zero]

/-! ## The folded last layer -/

/-- The kernel's output column: the hidden row `h` against the folded weights, plus the folded bias, for the column that word `b` names.
    `wo` and `wd` are the two index tables, `w3` and `b3` the last layer, `offs` and `defs` the offsets and the defaults. -/
def folded (h : Fin 512 → EReal) (w3 : Fin 512 → Fin 20 → EReal) (b3 offs defs : Fin 20 → EReal) (wo wd : Fin 20 → BitVec 32) (b : BitVec 32) : EReal :=
  (∑ k, h k * ∑ j, w3 k j * (sel (wo j) b * tenth))
    + (∑ j, b3 j * (sel (wo j) b * tenth)
        + (∑ j, offs j * sel (wo j) b + (1 - ∑ j, sel (wo j) b) * ∑ j, defs j * sel (wd j) b))

variable (h : Fin 512 → EReal) (w3 : Fin 512 → Fin 20 → EReal) (b3 offs defs : Fin 20 → EReal) (wo wd : Fin 20 → BitVec 32) (b : BitVec 32)

/-- Where the word names no column the folded output is zero. -/
theorem folded_out (hb : 28 ≤ b.toNat) : folded h w3 b3 offs defs wo wd b = 0 := by
  unfold folded
  simp only [sel_out _ b hb, zero_mul, mul_zero, Finset.sum_const_zero, add_zero]

/-- Where exactly one entry `j` of the first index table is the column, the folded output is the last layer's action `j`, scaled and
    offset. -/
theorem folded_hit (hb : b.toNat < 28) (j : Fin 20) (hj : wo j = b) (huniq : ∀ i, wo i = b → i = j) :
    folded h w3 b3 offs defs wo wd b = ((∑ k, h k * w3 k j) + b3 j) * tenth + offs j := by
  unfold folded
  simp only [sel_in _ b hb]
  have e1 : ∑ i, offs i * (if wo i = b then (1 : EReal) else 0) = offs j := by
    have := sum_pick offs wo b 1 j hj huniq
    simpa only [mul_one] using this
  have e2 : ∑ i, (if wo i = b then (1 : EReal) else 0) = 1 := by
    have := sum_pick (fun _ => (1 : EReal)) wo b 1 j hj huniq
    simpa only [mul_one, one_mul] using this
  rw [e1, e2, sum_pick b3 wo b tenth j hj huniq]
  simp only [sum_pick _ wo b tenth j hj huniq]
  rw [show (1 : EReal) - 1 = 0 by rw [← EReal.coe_one, ← EReal.coe_sub, sub_self, EReal.coe_zero], zero_mul, add_zero, add_mul_tenth, sum_mul_tenth, add_assoc]
  simp only [mul_assoc]

/-- Where no entry of the first index table is the column, the folded output is the sum of the defaults whose entry of the second index
    table is. -/
theorem folded_miss (hb : b.toNat < 28) (hnone : ∀ i, wo i ≠ b) :
    folded h w3 b3 offs defs wo wd b = ∑ j, defs j * (if wd j = b then (1 : EReal) else 0) := by
  unfold folded
  simp only [sel_in _ b hb, hnone, if_false, zero_mul, mul_zero, Finset.sum_const_zero, sub_zero, one_mul, zero_add]

/-- Where no entry of the first index table is the column and exactly one entry `j` of the second is, the folded output is default `j`. -/
theorem folded_default (hb : b.toNat < 28) (hnone : ∀ i, wo i ≠ b) (j : Fin 20) (hj : wd j = b) (huniq : ∀ i, wd i = b → i = j) :
    folded h w3 b3 offs defs wo wd b = defs j := by
  rw [folded_miss h w3 b3 offs defs wo wd b hb hnone]
  have := sum_pick defs wd b 1 j hj huniq
  simpa only [mul_one] using this

/-- Where no entry of either index table is the column, the folded output is zero. -/
theorem folded_zero (hb : b.toNat < 28) (hnone : ∀ i, wo i ≠ b) (hnone' : ∀ i, wd i ≠ b) :
    folded h w3 b3 offs defs wo wd b = 0 := by
  rw [folded_miss h w3 b3 offs defs wo wd b hb hnone]
  have := sum_pick_none defs wd b 1 hnone'
  simpa only [mul_one] using this

/-- The value of the kept column `b`: the action whose entry of `wo` is the column; failing that, the default whose entry of `wd` is; failing
    that, zero. -/
def chosen (act defs : Fin 20 → EReal) (wo wd : Fin 20 → BitVec 32) (b : BitVec 32) : EReal :=
  open Classical in
  if h : ∃ j, wo j = b then act h.choose else if h : ∃ j, wd j = b then defs h.choose else 0

/-- With no repeated entry in either index table the folded output is the chosen value. -/
theorem folded_eq_chosen (hb : b.toNat < 28) (hwo : ∀ i j, wo i = wo j → i = j) (hwd : ∀ i j, wd i = wd j → i = j) :
    folded h w3 b3 offs defs wo wd b = chosen (fun j => ((∑ k, h k * w3 k j) + b3 j) * tenth + offs j) defs wo wd b := by
  unfold chosen
  by_cases h1 : ∃ j, wo j = b
  · rw [dif_pos h1]
    exact folded_hit h w3 b3 offs defs wo wd b hb _ h1.choose_spec fun i hi => hwo _ _ (hi.trans h1.choose_spec.symm)
  · rw [dif_neg h1]
    have hnone : ∀ i, wo i ≠ b := fun i hi => h1 ⟨i, hi⟩
    by_cases h2 : ∃ j, wd j = b
    · rw [dif_pos h2]
      exact folded_default h w3 b3 offs defs wo wd b hb hnone _ h2.choose_spec fun i hi => hwd _ _ (hi.trans h2.choose_spec.symm)
    · rw [dif_neg h2]
      exact folded_zero h w3 b3 offs defs wo wd b hb hnone fun i hi => h2 ⟨i, hi⟩

/-! ## The two hidden layers -/

/-- The network's input row: the observation row with columns 68 to 87 replaced by the previous actions. -/
def input (obs : Fin 256 → EReal) (prev : Fin 20 → EReal) (q : Fin 256) : EReal :=
  if h : 68 ≤ q.val ∧ q.val < 88 then prev ⟨q.val - 68, by omega⟩ else obs q

/-- One hidden layer: each unit is the hyperbolic tangent of its weighted sum plus its bias. -/
def layer {n : Nat} (x : Fin n → EReal) (w : Fin n → Fin 512 → EReal) (b : Fin 512 → EReal) (k : Fin 512) : EReal :=
  Ideal.tanh ((∑ q, x q * w q k) + b k)

/-- The second hidden layer, from an observation row and the previous actions. -/
def hiddenRow (obs : Fin 256 → EReal) (prev : Fin 20 → EReal) (w1 : Fin 256 → Fin 512 → EReal) (b1 : Fin 512 → EReal)
    (w2 : Fin 512 → Fin 512 → EReal) (b2 : Fin 512 → EReal) : Fin 512 → EReal :=
  layer (layer (input obs prev) w1 b1) w2 b2

/-- The kernel spreads the previous actions over the 256 columns by a product with a shifted identity; inside columns 68 to 87 that is
    the previous action of the column. -/
theorem spread (prev : Fin 20 → EReal) (q : Fin 256) (h : 68 ≤ q.val ∧ q.val < 88) :
    ∑ j : Fin 20, prev j * (if BitVec.ofNat 32 q.val = IntOp.addi (BitVec.ofNat 32 j.val) 68#32 then (1 : EReal) else 0)
      = prev ⟨q.val - 68, by omega⟩ := by
  rw [Finset.sum_eq_single (⟨q.val - 68, by omega⟩ : Fin 20)]
  · rw [if_pos, mul_one]
    show BitVec.ofNat 32 q.val = BitVec.ofNat 32 (q.val - 68) + 68#32
    apply BitVec.eq_of_toNat_eq
    simp only [BitVec.toNat_add, BitVec.toNat_ofNat]
    omega
  · intro j _ hj
    rw [if_neg, mul_zero]
    intro e
    apply hj
    apply Fin.ext
    have e' := congrArg BitVec.toNat (show BitVec.ofNat 32 q.val = BitVec.ofNat 32 j.val + 68#32 from e)
    simp only [BitVec.toNat_add, BitVec.toNat_ofNat] at e'
    have := j.isLt
    show j.val = q.val - 68
    omega
  · intro h; exact absurd (Finset.mem_univ _) h

end Cert.Spec

end
-- ==== Proof.Pre.lean ====
/-
  The precondition, read as facts about the three index tables.

  `indices_valid` returns a 20 × 20 table of booleans, all of them true: no two entries of the first index table are equal, no two of the
  second are, the entries of both are not negative, and every kept column lies in [0, 28).
-/
module

public import proofs.«01_k».proof.Defs
public import proofs.«01_k».proof.Proof.Gen.Pre_indices_valid
public import Idealize.ShloMosaic.Lib.Pointwise
public import Idealize.ShloMosaic.Lib.WordCmp

@[expose] public section

noncomputable section

open Idealize.ShloMosaic Idealize.ShloMosaic.TcCoe

namespace Cert.Spec

/-- What the precondition says of the index tables: `wo` (where the actions go), `wd` (where the defaults go) and `kp` (the kept columns). -/
structure Tables (wo wd kp : Fin 20 → BitVec 32) : Prop where
  /-- the entries of the first table are not negative -/
  wo_nonneg : ∀ i, (wo i).toNat < 2 ^ 31
  /-- the entries of the second table are not negative -/
  wd_nonneg : ∀ i, (wd i).toNat < 2 ^ 31
  /-- no two entries of the first table are equal -/
  wo_inj : ∀ i j, wo i = wo j → i = j
  /-- no two entries of the second table are equal -/
  wd_inj : ∀ i j, wd i = wd j → i = j
  /-- every kept column is one of the 28 -/
  kp_lt : ∀ i, (kp i).toNat < 28

open Cert.Pre_indices_valid in
/-- The precondition's table of booleans, all true, gives the facts. -/
theorem tables_of_fn (a0 : FVec Ideal S16384x256 .f32) (a1 : FVec Ideal S1x20 .f32) (a2 : FVec Ideal S256x512 .f32) (a3 : FVec Ideal S512 .f32)
    (a4 : FVec Ideal S512x512 .f32) (a5 : FVec Ideal S512 .f32) (a6 : FVec Ideal S512x20 .f32) (a7 : FVec Ideal S20 .f32) (a8 a9 : IVec S20 32)
    (a10 a11 : FVec Ideal S20 .f32) (a12 : IVec S20 32)
    (h : fn (F := Ideal) a0 a1 a2 a3 a4 a5 a6 a7 a8 a9 a10 a11 a12 = fun _ => 1#1) :
    Tables (fun i => a8 (ix1 i)) (fun i => a9 (ix1 i)) (fun i => a12 (ix1 i)) := by
  have e : ∀ i j : Fin 20, fn (F := Ideal) a0 a1 a2 a3 a4 a5 a6 a7 a8 a9 a10 a11 a12 (ix2 i j) = 1#1 := fun i j => congrFun h _
  pointwise [fn, fn_part1] at e
  have andi_iff (p q : BitVec 1) : IntOp.andi p q = 1#1 ↔ p = 1#1 ∧ q = 1#1 := by revert p q; decide
  have ori_iff (p q : BitVec 1) : IntOp.ori p q = 1#1 ↔ p = 1#1 ∨ q = 1#1 := by revert p q; decide
  have bool_iff (p : Bool) : BitVec.ofBool p = 1#1 ↔ p = true := by cases p <;> decide
  simp only [andi_iff, ori_iff, IntOp.cmpi, bool_iff, beq_iff_eq, bne_iff_ne, BitVec.sle, BitVec.slt, decide_eq_true_eq] at e
  have same (i j : Fin 20) (h : BitVec.ofNat 32 i.val = BitVec.ofNat 32 j.val) : i = j := by
    have := congrArg BitVec.toNat h
    simp only [BitVec.toNat_ofNat] at this
    exact Fin.ext (by omega)
  have z : (0#32).toInt = 0 := by decide
  have z28 : (28#32).toInt = 28 := by decide
  refine ⟨fun i => ?_, fun i => ?_, fun i j hij => ?_, fun i j hij => ?_, fun i => ?_⟩
  · have := (e i i).2.1.1; rw [z, BitVec.toInt_eq_toNat_cond] at this; split at this <;> omega
  · have := (e i i).2.1.2; rw [z, BitVec.toInt_eq_toNat_cond] at this; split at this <;> omega
  · exact (e i j).1.1.elim (fun h => absurd hij h) (same i j)
  · exact (e i j).1.2.elim (fun h => absurd hij h) (same i j)
  · obtain ⟨h0, h1⟩ := (e i i).2.2
    rw [z, BitVec.toInt_eq_toNat_cond] at h0
    rw [z28, BitVec.toInt_eq_toNat_cond] at h1
    split at h0 <;> split at h1 <;> omega

end Cert.Spec

end
-- ==== Proof.RefOps.lean ====
/-
  Writing and reading whole columns of a matrix by index words, at any sizes. Nothing here names a program.

  `scatter_columns_hit` and `scatter_columns_miss` read `x.at[:, idx].set(v)` at an entry: the column of `v` whose index word names the
  entry's column, or the old entry when no index word names it. `gather_column` reads `x[:, idx]` at an entry.
-/
module

public import Idealize.ShloMosaic.Lib.Routing.OpsSet
public import Idealize.ShloMosaic.Lib.Routing.OpsOne
public import Idealize.ShloMosaic.Lib.ShapeFacts

@[expose] public section

noncomputable section

open Idealize.ShloMosaic Idealize.ShloMosaic.ValueIdx Idealize.ShloMosaic.Routing

namespace Cert.Spec

/-- Axis 0 of two is not in a list of axes that is `[1]`. -/
theorem zero_notMem (l : List (Fin 2)) (hl : l = [1]) : (0 : Fin 2) ∉ l := fun h => by
  rw [hl] at h; exact absurd (List.mem_singleton.1 h) (by decide)

/-- A word read signed is a small number `p` exactly when it is the word of `p`. -/
theorem toInt_eq_iff (x : BitVec 32) (p : Nat) (hp : p < 2 ^ 31) : x.toInt = (p : Int) ↔ x = BitVec.ofNat 32 p := by
  constructor
  · intro h
    refine BitVec.eq_of_toInt_eq ?_
    rw [h, StableHlo.Predicate.toInt_ofNat_small _ hp]
  · rintro rfl
    exact StableHlo.Predicate.toInt_ofNat_small _ hp

section
variable {A N n : Nat} (d : ScatterDims (shape2 A N) (shape2 n 1) (shape2 A n)) (huw : d.updateWindowDims = [0])
  (hiw : d.insertedWindowDims = [1]) (hsd : d.scatterDimsToOperandDims = [1]) (hiv : d.indexVectorDim = 1)
include huw hiw hsd hiv

/-- Entry `(w', j)` of the update lands at `(w, e)` exactly when the rows agree and the `j`-th index word, read signed, is `e`. -/
theorem lands_column (idx : IVec (shape2 n 1) 32) (w' w : Fin A) (j : Fin n) (e : Fin N) :
    d.resultIdx? (ix2 w' j) idx = some (ix2 w e) ↔ w' = w ∧ (idx (ix2 j (0 : Fin 1))).toInt = (e.val : Int) := by
  have hm : (1 : Fin 2) ∈ d.scatterDimsToOperandDims := by rw [hsd]; exact List.mem_singleton.2 rfl
  have hkept : d.sKept = [0] := by
    show (shape2 A N).kept d.insertedWindowDims = _
    rw [hiw]
    rfl
  have e0 : ∀ X : Fin 2, X = 0 → (ix2 w' j X).val = w'.val := fun X h => by subst h; rfl
  have e1 : ∀ X : Fin 2, X = 1 → (ix2 w' j X).val = j.val := fun X h => by subst h; rfl
  have hk0 : ∀ k ∈ d.updateWindowDims, k = (0 : Fin 2) := fun k hk => by rw [huw] at hk; exact List.mem_singleton.1 hk
  have hk1 : ∀ k ∈ d.uScatter, k = (1 : Fin 2) := fun k hk => by
    have hk' : k ∉ d.updateWindowDims := of_decide_eq_true (List.mem_filter.1 hk).2
    rw [huw] at hk'
    have h1 : k.val ≠ 0 := fun e => hk' (List.mem_singleton.2 (Fin.ext e))
    have h2 : k.val < 2 := k.isLt
    exact Fin.ext (by show k.val = 1; omega)
  have hwin1 : d.window (ix2 w' j) 1 = 0 := by
    unfold ScatterDims.window
    rw [dif_neg fun h => (of_decide_eq_true (List.mem_filter.1 h).2) (by rw [hiw]; exact List.mem_singleton.2 rfl)]
  have hwin0 : d.window (ix2 w' j) 0 = w'.val := by
    unfold ScatterDims.window
    rw [dif_pos (by rw [hkept]; exact List.mem_singleton.2 rfl)]
    exact e0 _ (hk0 _ (List.getElem_mem _))
  have hstart0 : d.start (ix2 w' j) idx 0 = 0 := by
    unfold ScatterDims.start
    rw [dif_neg (zero_notMem _ hsd)]
  have hstart1 : d.start (ix2 w' j) idx 1 = (idx (ix2 j (0 : Fin 1))).toInt := by
    unfold ScatterDims.start
    rw [dif_pos hm]
    have hsi : d.siIdx (ix2 w' j) ⟨d.scatterDimsToOperandDims.idxOf 1, List.idxOf_lt_length_iff.2 hm⟩ = ix2 j (0 : Fin 1) := by
      funext b'
      apply Fin.ext
      match b' with
      | ⟨0, _⟩ =>
        unfold ScatterDims.siIdx
        rw [dif_neg (by rw [hiv]; exact Nat.zero_ne_one)]
        unfold ScatterDims.siCoord
        simp only [Fin.val_cast]
        exact e1 _ (hk1 _ (List.getElem_mem _))
      | ⟨1, _⟩ =>
        unfold ScatterDims.siIdx
        rw [dif_pos (by rw [hiv])]
        show List.idxOf (1 : Fin 2) d.scatterDimsToOperandDims = 0
        rw [hsd]; simp
    rw [hsi]
  rw [Fin.ext_iff, Routing.resultIdx?_ix2, hstart0, hwin0, hstart1, hwin1]
  omega

/-- An index pair is the pair of its coordinates, so the landing rule holds of any update index. -/
theorem lands_column_at (hN : N < 2 ^ 31) (idx : IVec (shape2 n 1) 32) (k : (shape2 A n).Idx) (w : Fin A) (e : Fin N) :
    d.resultIdx? k idx = some (ix2 w e) ↔ k 0 = w ∧ idx (ix2 (k 1) (0 : Fin 1)) = BitVec.ofNat 32 e.val := by
  have h := lands_column d huw hiw hsd hiv idx (k 0) w (k 1) e
  rw [toInt_eq_iff _ _ (by have := e.isLt; omega)] at h
  exact (iff_of_eq (congrArg (fun t => d.resultIdx? t idx = some (ix2 w e)) (eq_ix2 k))).trans h

/-- Columns written by pairwise different index words: the entry in the column that word `j` names is the update's entry in its column `j`. -/
theorem scatter_columns_hit {α : Type} (hN : N < 2 ^ 31) (x0 : (shape2 A N).Idx → α) (idx : IVec (shape2 n 1) 32) (upd : (shape2 A n).Idx → α)
    (w : Fin A) (e : Fin N) (j : Fin n) (hj : idx (ix2 j (0 : Fin 1)) = BitVec.ofNat 32 e.val)
    (huniq : ∀ i : Fin n, idx (ix2 i (0 : Fin 1)) = BitVec.ofNat 32 e.val → i = j) :
    Host.scatter d (fun _ b => b) x0 idx upd (ix2 w e) = upd (ix2 w j) :=
  Routing.scatter_set_hit d x0 idx upd _ _
    (fun k hk => by
      obtain ⟨h0, h1⟩ := (lands_column_at d huw hiw hsd hiv hN idx k w e).1 hk
      have h2 := huniq _ h1
      refine congrArg upd ((eq_ix2 k).trans ?_)
      exact congrArg₂ ix2 h0 h2)
    (ix2 w j) ((lands_column_at d huw hiw hsd hiv hN idx (ix2 w j) w e).2 ⟨rfl, hj⟩)

/-- Columns that no index word names keep the operand's entries. -/
theorem scatter_columns_miss {α : Type} (hN : N < 2 ^ 31) (x0 : (shape2 A N).Idx → α) (idx : IVec (shape2 n 1) 32) (upd : (shape2 A n).Idx → α)
    (w : Fin A) (e : Fin N) (hno : ∀ j : Fin n, idx (ix2 j (0 : Fin 1)) ≠ BitVec.ofNat 32 e.val) :
    Host.scatter d (fun _ b => b) x0 idx upd (ix2 w e) = x0 (ix2 w e) :=
  Routing.scatter_set_miss d x0 idx upd _ fun k hk => hno (k 1) ((lands_column_at d huw hiw hsd hiv hN idx k w e).1 hk).2

end

/-- Reading whole columns of a matrix by index words: where the `c`-th word names column `b`, entry `(y, c)` of the result is entry `(y, b)`. -/
theorem gather_column {α : Type} {A N n : Nat} (d : GatherDims (shape2 A N) (shape2 n 1) (shape2 A n)) (hoff : d.offsetDims = [0])
    (hcoll : d.collapsedSliceDims = [1]) (hob : d.operandBatchingDims = [])
    (hsim : d.startIndexMap = [1]) (hivd : d.indexVectorDim = 1) (x : (shape2 A N).Idx → α) (idx : IVec (shape2 n 1) 32)
    (y : Fin A) (c : Fin n) (b : Fin N) (hb : idx (ix2 c (0 : Fin 1)) = BitVec.ofNat 32 b.val) (hN : N < 2 ^ 31) :
    Host.gather d x idx (ix2 y c) = x (ix2 y b) := by
  unfold Host.gather
  refine congrArg x (funext fun a => Fin.ext ?_)
  have hnb : ∀ a', a' ∉ d.operandBatchingDims := fun a' => by rw [hob]; exact List.not_mem_nil
  have batch : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have offs : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  match a with
  | ⟨0, _⟩ =>
    have hk : (0 : Fin 2) ∈ d.sKept := (d.mem_sKept 0).2 ⟨zero_notMem _ hcoll, hnb 0⟩
    show d.start (ix2 y c) idx 0 + d.batchCoord (ix2 y c) 0 + d.offCoord (ix2 y c) 0 = y.val
    rw [d.batchCoord_eq_zero _ _ (hnb 0), Nat.add_zero]
    unfold GatherDims.start GatherDims.offCoord
    rw [dif_neg (zero_notMem _ hsim), dif_pos hk, Nat.zero_add]
    exact e0 _ (offs _ (List.getElem_mem _))
  | ⟨1, _⟩ =>
    have hin : (1 : Fin 2) ∈ d.collapsedSliceDims := by rw [hcoll]; exact List.mem_singleton.2 rfl
    have hk : (1 : Fin 2) ∉ d.sKept := fun h => ((d.mem_sKept 1).1 h).1 hin
    have hm : (1 : Fin 2) ∈ d.startIndexMap := by rw [hsim]; exact List.mem_singleton.2 rfl
    show d.start (ix2 y c) idx 1 + d.batchCoord (ix2 y c) 1 + d.offCoord (ix2 y c) 1 = b.val
    rw [d.batchCoord_eq_zero _ _ (hnb 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (batch _ (List.getElem_mem _))
      | ⟨1, _⟩ =>
        unfold GatherDims.siIdx
        rw [dif_pos (by rw [hivd])]
        show List.idxOf (1 : Fin 2) d.startIndexMap = 0
        rw [hsim]; simp
    have hlt := b.isLt
    rw [hsi, hb, d.slice_collapsed 1 hin, StableHlo.Predicate.toInt_ofNat_small _ (by omega)]
    show min ((b.val : Int)).toNat (N - 1) = b.val
    omega

end Cert.Spec
-- ==== Proof.RefVal.lean ====
/-
  What the reference computes, at one entry of its result: the chosen value of the kept column, or zero in the four padding columns.
-/
module

public import proofs.«01_k».proof.Proof.Gen.ReferenceIdeal.Run
public import proofs.«01_k».proof.Proof.Spec
public import proofs.«01_k».proof.Proof.Pre
public import proofs.«01_k».proof.Proof.RefOps
public import Idealize.ShloMosaic.Lib.Routing.OpsPair
public import Idealize.ShloMosaic.Lib.Tactic.CleanTypes

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.Spec

/-- An index table in the form in which the reference scatters and gathers by it: a negative word is moved up by 28. -/
abbrev words (v : IVec S20 32) : IVec S20x1 32 :=
  broadcastInDim S20x1 ![0] bcast_S20_S20x1_0
    (select (cmpi .slt v (broadcastInDim S20 ![] bcast_S_S20 (constantI S_ 32 0#32)))
      (addi v (broadcastInDim S20 ![] bcast_S_S20 (constantI S_ 32 28#32))) v)

/-- A word that is not negative stays as it is. -/
theorem words_apply (v : IVec S20 32) (j : Fin 20) (h : (v (ix1 j)).toNat < 2 ^ 31) : words v (ix2 j 0) = v (ix1 j) := by
  pointwise
  exact Routing.wrap_of_lt _ _ h

/-- Actions written over defaults written over a table, read back at a kept column: the chosen value. -/
theorem picked (act dflt : FVec Ideal S16384x20 .f32) (z : FVec Ideal S16384x28 .f32) (wo wd kp : IVec S20 32)
    (hT : Tables (fun i => wo (ix1 i)) (fun i => wd (ix1 i)) (fun i => kp (ix1 i))) (r : Fin 16384) (q : Fin 20)
    (hz : ∀ p, z (ix2 r p) = (0 : EReal)) :
    Host.gather gather_S16384x28_S20x1_S16384x20_0_1_n_n_1_1_163841
        (Host.scatter scatter_S16384x28_S20x1_S16384x20_0_1_1_1 (fun _ b => b)
          (Host.scatter scatter_S16384x28_S20x1_S16384x20_0_1_1_1 (fun _ b => b) z (words wd) dflt) (words wo) act) (words kp) (ix2 r q)
      = chosen (fun j => act (ix2 r j)) (fun j => dflt (ix2 r j)) (fun j => wo (ix1 j)) (fun j => wd (ix1 j)) (kp (ix1 q)) := by
  have hk := hT.kp_lt q
  have ek : BitVec.ofNat 32 (kp (ix1 q)).toNat = kp (ix1 q) := by simp
  have hwo (j : Fin 20) := words_apply wo j (hT.wo_nonneg j)
  have hwd (j : Fin 20) := words_apply wd j (hT.wd_nonneg j)
  have hN : 28 < 2 ^ 31 := by norm_num
  simp only [ix2_eq_valueIdx] at hwo hwd hz ⊢
  rw [gather_column gather_S16384x28_S20x1_S16384x20_0_1_n_n_1_1_163841 rfl rfl rfl rfl rfl _ (words kp) r q ⟨(kp (ix1 q)).toNat, hk⟩
    (by rw [← ix2_eq_valueIdx, words_apply kp q (by omega)]; exact ek.symm) hN]
  unfold chosen
  by_cases h1 : ∃ j, wo (ix1 j) = kp (ix1 q)
  · rw [dif_pos h1]
    refine scatter_columns_hit scatter_S16384x28_S20x1_S16384x20_0_1_1_1 rfl rfl rfl rfl hN _ _ _ r _ _ ?_ fun i hi => ?_
    · rw [hwo, ek]; exact h1.choose_spec
    · rw [hwo, ek] at hi; exact hT.wo_inj _ _ (hi.trans h1.choose_spec.symm)
  · rw [dif_neg h1, scatter_columns_miss scatter_S16384x28_S20x1_S16384x20_0_1_1_1 rfl rfl rfl rfl hN _ _ _ r _
      fun j hj => h1 ⟨j, by rw [hwo, ek] at hj; exact hj⟩]
    by_cases h2 : ∃ j, wd (ix1 j) = kp (ix1 q)
    · rw [dif_pos h2]
      refine scatter_columns_hit scatter_S16384x28_S20x1_S16384x20_0_1_1_1 rfl rfl rfl rfl hN _ _ _ r _ _ ?_ fun i hi => ?_
      · rw [hwd, ek]; exact h2.choose_spec
      · rw [hwd, ek] at hi; exact hT.wd_inj _ _ (hi.trans h2.choose_spec.symm)
    · rw [dif_neg h2, scatter_columns_miss scatter_S16384x28_S20x1_S16384x20_0_1_1_1 rfl rfl rfl rfl hN _ _ _ r _
        fun j hj => h2 ⟨j, by rw [hwd, ek] at hj; exact hj⟩]
      exact hz _

variable (m : (ℓ : Loc nD τ sig) → Buf (Elt Ideal) ℓ) (c : Dev nD)

/-- Row `r` of the network's second hidden layer. -/
def hidden (r : Fin 16384) : Fin 512 → EReal :=
  hiddenRow (fun q => m ((c.tc : Thread nD τ).loc main_arg0) (ix2 r q)) (fun q => m ((c.tc : Thread nD τ).loc main_arg1) (ix2 0 q))
    (fun q k => m ((c.tc : Thread nD τ).loc main_arg2) (ix2 q k)) (fun k => m ((c.tc : Thread nD τ).loc main_arg3) (ix1 k))
    (fun q k => m ((c.tc : Thread nD τ).loc main_arg4) (ix2 q k)) (fun k => m ((c.tc : Thread nD τ).loc main_arg5) (ix1 k))

/-- The reference's result at row `r` and column `q`. -/
theorem result_apply
    (hT : Tables (fun i => m ((c.tc : Thread nD τ).loc main_arg8) (ix1 i)) (fun i => m ((c.tc : Thread nD τ).loc main_arg9) (ix1 i))
      (fun i => m ((c.tc : Thread nD τ).loc main_arg12) (ix1 i))) (r : Fin 16384) (q : Fin 24) :
    (Cert.ReferenceIdeal.Value.res_main_v41 (F := Ideal) m c (ix2 r q) : EReal)
      = if h : q.val < 20 then
          chosen (fun j => ((∑ k, hidden m c r k * m ((c.tc : Thread nD τ).loc main_arg6) (ix2 k j)) + m ((c.tc : Thread nD τ).loc main_arg7) (ix1 j)) * tenth
              + m ((c.tc : Thread nD τ).loc main_arg10) (ix1 j))
            (fun j => m ((c.tc : Thread nD τ).loc main_arg11) (ix1 j)) (fun j => m ((c.tc : Thread nD τ).loc main_arg8) (ix1 j))
            (fun j => m ((c.tc : Thread nD τ).loc main_arg9) (ix1 j)) (m ((c.tc : Thread nD τ).loc main_arg12) (ix1 ⟨q.val, h⟩))
        else 0 := by
  unfold Cert.ReferenceIdeal.Value.res_main_v41
  clean_types
  pointwise
  by_cases h : q.val < 20
  · rw [dif_pos h, dif_pos h]
    have hk := hT.kp_lt ⟨q.val, h⟩
    rw [Routing.wrap_of_lt _ _ (show (m ((c.tc : Thread nD τ).loc main_arg12) (ix1 ⟨q.val, h⟩)).toNat < 2 ^ (32 - 1) by omega)]
    rw [picked _ _ _ _ _ _ hT r ⟨q.val, h⟩ (by intro p; pointwise)]
    pointwise
    have low : (0#32).toInt = 0 := by decide
    have high : (27#32).toInt = 27 := by decide
    have word : (m ((c.tc : Thread nD τ).loc main_arg12) (ix1 ⟨q.val, h⟩)).toInt
        = ((m ((c.tc : Thread nD τ).loc main_arg12) (ix1 ⟨q.val, h⟩)).toNat : Int) := by
      rw [BitVec.toInt_eq_toNat_cond]; split <;> omega
    have inside : IntOp.andi (IntOp.cmpi CmpIPredicate.sge (m ((c.tc : Thread nD τ).loc main_arg12) (ix1 ⟨q.val, h⟩)) 0#32)
        (IntOp.cmpi CmpIPredicate.sle (m ((c.tc : Thread nD τ).loc main_arg12) (ix1 ⟨q.val, h⟩)) 27#32) = 1#1 :=
      IntOp.andi_eq_one.2 ⟨IntOp.cmpi_sge.2 (by rw [low, word]; omega), IntOp.cmpi_sle.2 (by rw [high, word]; omega)⟩
    rw [inside, show Finset.fold IntOp.andi (1#1) (fun _ : Fin 1 => 1#1) Finset.univ = 1#1 by decide]
    have row (x : Fin 256) :
        (if h : x.val < 68 then m ((c.tc : Thread nD τ).loc main_arg0) (ix2 r x)
          else if h : x.val - 68 < 20 then m ((c.tc : Thread nD τ).loc main_arg1) (ix2 0 ⟨x.val - 68, h⟩)
            else m ((c.tc : Thread nD τ).loc main_arg0) (ix2 r ⟨88 + (x.val - 68 - 20), by omega⟩) : EReal)
          = input (fun q => m ((c.tc : Thread nD τ).loc main_arg0) (ix2 r q)) (fun q => m ((c.tc : Thread nD τ).loc main_arg1) (ix2 0 q)) x := by
      unfold input
      by_cases h1 : x.val < 68
      · rw [dif_pos h1, dif_neg (by omega)]
      · rw [dif_neg h1]
        by_cases h2 : x.val - 68 < 20
        · rw [dif_pos h2, dif_pos (by omega)]
        · rw [dif_neg h2, dif_neg (by omega), show (⟨88 + (x.val - 68 - 20), by omega⟩ : Fin 256) = x from Fin.ext (by show 88 + (x.val - 68 - 20) = x.val; omega)]
    simp only [row]
    rfl
  · rw [dif_neg h, dif_neg h]

end Cert.ReferenceIdeal.Val

end
-- ==== Proof.Block.lean ====
/-
  What one run of the kernel's body leaves behind, as the payloads of its stores.

  The body runs in one of two cases. At the grid's first point it fills seven scratch buffers (the two weight matrices, the folded last
  weight matrix, the row of previous actions, the folded last bias, the two biases) and then computes its output block from them; at
  every later point it only computes its output block from what the scratch buffers hold. Every store covers its buffer whole, so each
  buffer ends with the payload of the one store into it.
-/
module

public import proofs.«01_k».proof.Proof.Gen.KernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Blk

open Cert.KernelIdeal Cert.KernelIdeal.Gen

variable {F : FTy → Type} [FloatOps F]

/-- The zero offset of a rank-two store. -/
theorem off0 : (![0, 0] : Fin 2 → Nat) = fun _ => 0 := funext fun a => by fin_cases a <;> rfl

/-- At the first point scratch buffer 0 ends with the first weight matrix, rounded. -/
theorem sout_A_0 (c : Dev nD) (i : grid0.Coords) (arg1 : Memref sig .tc .vmem S4096x256 .f32) (harg1 : arg1.IsWhole) (arg2 : Memref sig .tc .vmem S1x20 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x20 .f32) (harg7 : arg7.IsWhole) (arg8 : Memref sig .tc .vmem S1x20 .f32) (harg8 : arg8.IsWhole) (arg9 : Memref sig .tc .vmem S1x20 .i32) (harg9 : arg9.IsWhole) (arg10 : Memref sig .tc .vmem S1x20 .i32) (harg10 : arg10.IsWhole) (arg11 : Memref sig .tc .vmem S1x20 .f32) (harg11 : arg11.IsWhole) (arg12 : Memref sig .tc .vmem S1x20 .f32) (harg12 : arg12.IsWhole) (arg13 : Memref sig .tc .vmem S1x20 .i32) (harg13 : arg13.IsWhole) (arg14 : Memref sig .tc .vmem S4096x24 .f32) (harg14 : arg14.IsWhole) (arg15 : Memref sig .tc .vmem S256x512 .fp8e4m3) (harg15 : arg15.IsWhole) (arg16 : Memref sig .tc .vmem S512x512 .fp8e4m3) (harg16 : arg16.IsWhole) (arg17 : Memref sig .tc .vmem S512x24 .bf16) (harg17 : arg17.IsWhole) (arg18 : Memref sig .tc .vmem S1x256 .f32) (harg18 : arg18.IsWhole) (arg19 : Memref sig .tc .vmem S1x24 .f32) (harg19 : arg19.IsWhole) (arg20 : Memref sig .tc .vmem S1x512 .bf16) (harg20 : arg20.IsWhole) (arg21 : Memref sig .tc .vmem S1x512 .bf16) (harg21 : arg21.IsWhole) (hc0 : cond0_0 i)
    (x0 : Vec F S4096x256 .f32) (x1 : Vec F S1x20 .f32) (x2 : Vec F S256x512 .f32) (x3 : Vec F S1x512 .f32) (x4 : Vec F S512x512 .f32) (x5 : Vec F S1x512 .f32) (x6 : Vec F S512x20 .f32) (x7 : Vec F S1x20 .f32) (x8 : Vec F S1x20 .i32) (x9 : Vec F S1x20 .i32) (x10 : Vec F S1x20 .f32) (x11 : Vec F S1x20 .f32) (x12 : Vec F S1x20 .i32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = k0_pay9 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12)]
  unfold kernelRun0_A
  dsimp only
  sl_unfold_words
  rw [View.canon_unit_zero off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S4096x256) off0, View.ld_unit_zero (S := S1x20) off0, View.ld_unit_zero (S := S256x512) off0, View.ld_unit_zero (S := S1x512) off0, View.ld_unit_zero (S := S512x512) off0, View.ld_unit_zero (S := S512x20) off0, View.ld_unit_zero (S := S1x256) off0, View.ld_unit_zero (S := S512x24) off0, View.ld_unit_zero (S := S1x24) off0]

/-- At the first point scratch buffer 1 ends with the second weight matrix, rounded. -/
theorem sout_A_1 (c : Dev nD) (i : grid0.Coords) (arg1 : Memref sig .tc .vmem S4096x256 .f32) (harg1 : arg1.IsWhole) (arg2 : Memref sig .tc .vmem S1x20 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x20 .f32) (harg7 : arg7.IsWhole) (arg8 : Memref sig .tc .vmem S1x20 .f32) (harg8 : arg8.IsWhole) (arg9 : Memref sig .tc .vmem S1x20 .i32) (harg9 : arg9.IsWhole) (arg10 : Memref sig .tc .vmem S1x20 .i32) (harg10 : arg10.IsWhole) (arg11 : Memref sig .tc .vmem S1x20 .f32) (harg11 : arg11.IsWhole) (arg12 : Memref sig .tc .vmem S1x20 .f32) (harg12 : arg12.IsWhole) (arg13 : Memref sig .tc .vmem S1x20 .i32) (harg13 : arg13.IsWhole) (arg14 : Memref sig .tc .vmem S4096x24 .f32) (harg14 : arg14.IsWhole) (arg15 : Memref sig .tc .vmem S256x512 .fp8e4m3) (harg15 : arg15.IsWhole) (arg16 : Memref sig .tc .vmem S512x512 .fp8e4m3) (harg16 : arg16.IsWhole) (arg17 : Memref sig .tc .vmem S512x24 .bf16) (harg17 : arg17.IsWhole) (arg18 : Memref sig .tc .vmem S1x256 .f32) (harg18 : arg18.IsWhole) (arg19 : Memref sig .tc .vmem S1x24 .f32) (harg19 : arg19.IsWhole) (arg20 : Memref sig .tc .vmem S1x512 .bf16) (harg20 : arg20.IsWhole) (arg21 : Memref sig .tc .vmem S1x512 .bf16) (harg21 : arg21.IsWhole) (hc0 : cond0_0 i)
    (x0 : Vec F S4096x256 .f32) (x1 : Vec F S1x20 .f32) (x2 : Vec F S256x512 .f32) (x3 : Vec F S1x512 .f32) (x4 : Vec F S512x512 .f32) (x5 : Vec F S1x512 .f32) (x6 : Vec F S512x20 .f32) (x7 : Vec F S1x20 .f32) (x8 : Vec F S1x20 .i32) (x9 : Vec F S1x20 .i32) (x10 : Vec F S1x20 .f32) (x11 : Vec F S1x20 .f32) (x12 : Vec F S1x20 .i32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = k0_pay11 (k0_pay10 x4) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12)]
  unfold kernelRun0_A
  dsimp only
  sl_unfold_words
  rw [View.canon_unit_zero off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S4096x256) off0, View.ld_unit_zero (S := S1x20) off0, View.ld_unit_zero (S := S256x512) off0, View.ld_unit_zero (S := S1x512) off0, View.ld_unit_zero (S := S512x512) off0, View.ld_unit_zero (S := S512x20) off0, View.ld_unit_zero (S := S1x256) off0, View.ld_unit_zero (S := S512x24) off0, View.ld_unit_zero (S := S1x24) off0]

/-- At the first point scratch buffer 2 ends with the last weight matrix times the scaled selection matrix. -/
theorem sout_A_2 (c : Dev nD) (i : grid0.Coords) (arg1 : Memref sig .tc .vmem S4096x256 .f32) (harg1 : arg1.IsWhole) (arg2 : Memref sig .tc .vmem S1x20 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x20 .f32) (harg7 : arg7.IsWhole) (arg8 : Memref sig .tc .vmem S1x20 .f32) (harg8 : arg8.IsWhole) (arg9 : Memref sig .tc .vmem S1x20 .i32) (harg9 : arg9.IsWhole) (arg10 : Memref sig .tc .vmem S1x20 .i32) (harg10 : arg10.IsWhole) (arg11 : Memref sig .tc .vmem S1x20 .f32) (harg11 : arg11.IsWhole) (arg12 : Memref sig .tc .vmem S1x20 .f32) (harg12 : arg12.IsWhole) (arg13 : Memref sig .tc .vmem S1x20 .i32) (harg13 : arg13.IsWhole) (arg14 : Memref sig .tc .vmem S4096x24 .f32) (harg14 : arg14.IsWhole) (arg15 : Memref sig .tc .vmem S256x512 .fp8e4m3) (harg15 : arg15.IsWhole) (arg16 : Memref sig .tc .vmem S512x512 .fp8e4m3) (harg16 : arg16.IsWhole) (arg17 : Memref sig .tc .vmem S512x24 .bf16) (harg17 : arg17.IsWhole) (arg18 : Memref sig .tc .vmem S1x256 .f32) (harg18 : arg18.IsWhole) (arg19 : Memref sig .tc .vmem S1x24 .f32) (harg19 : arg19.IsWhole) (arg20 : Memref sig .tc .vmem S1x512 .bf16) (harg20 : arg20.IsWhole) (arg21 : Memref sig .tc .vmem S1x512 .bf16) (harg21 : arg21.IsWhole) (hc0 : cond0_0 i)
    (x0 : Vec F S4096x256 .f32) (x1 : Vec F S1x20 .f32) (x2 : Vec F S256x512 .f32) (x3 : Vec F S1x512 .f32) (x4 : Vec F S512x512 .f32) (x5 : Vec F S1x512 .f32) (x6 : Vec F S512x20 .f32) (x7 : Vec F S1x20 .f32) (x8 : Vec F S1x20 .i32) (x9 : Vec F S1x20 .i32) (x10 : Vec F S1x20 .f32) (x11 : Vec F S1x20 .f32) (x12 : Vec F S1x20 .i32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = k0_pay6 (k0_pay5 x12 x8) x6 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12)]
  unfold kernelRun0_A
  dsimp only
  sl_unfold_words
  rw [View.canon_unit_zero off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S4096x256) off0, View.ld_unit_zero (S := S1x20) off0, View.ld_unit_zero (S := S256x512) off0, View.ld_unit_zero (S := S1x512) off0, View.ld_unit_zero (S := S512x512) off0, View.ld_unit_zero (S := S512x20) off0, View.ld_unit_zero (S := S1x256) off0, View.ld_unit_zero (S := S512x24) off0, View.ld_unit_zero (S := S1x24) off0]

/-- At the first point scratch buffer 3 ends with the previous actions spread over the 256 columns. -/
theorem sout_A_3 (c : Dev nD) (i : grid0.Coords) (arg1 : Memref sig .tc .vmem S4096x256 .f32) (harg1 : arg1.IsWhole) (arg2 : Memref sig .tc .vmem S1x20 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x20 .f32) (harg7 : arg7.IsWhole) (arg8 : Memref sig .tc .vmem S1x20 .f32) (harg8 : arg8.IsWhole) (arg9 : Memref sig .tc .vmem S1x20 .i32) (harg9 : arg9.IsWhole) (arg10 : Memref sig .tc .vmem S1x20 .i32) (harg10 : arg10.IsWhole) (arg11 : Memref sig .tc .vmem S1x20 .f32) (harg11 : arg11.IsWhole) (arg12 : Memref sig .tc .vmem S1x20 .f32) (harg12 : arg12.IsWhole) (arg13 : Memref sig .tc .vmem S1x20 .i32) (harg13 : arg13.IsWhole) (arg14 : Memref sig .tc .vmem S4096x24 .f32) (harg14 : arg14.IsWhole) (arg15 : Memref sig .tc .vmem S256x512 .fp8e4m3) (harg15 : arg15.IsWhole) (arg16 : Memref sig .tc .vmem S512x512 .fp8e4m3) (harg16 : arg16.IsWhole) (arg17 : Memref sig .tc .vmem S512x24 .bf16) (harg17 : arg17.IsWhole) (arg18 : Memref sig .tc .vmem S1x256 .f32) (harg18 : arg18.IsWhole) (arg19 : Memref sig .tc .vmem S1x24 .f32) (harg19 : arg19.IsWhole) (arg20 : Memref sig .tc .vmem S1x512 .bf16) (harg20 : arg20.IsWhole) (arg21 : Memref sig .tc .vmem S1x512 .bf16) (harg21 : arg21.IsWhole) (hc0 : cond0_0 i)
    (x0 : Vec F S4096x256 .f32) (x1 : Vec F S1x20 .f32) (x2 : Vec F S256x512 .f32) (x3 : Vec F S1x512 .f32) (x4 : Vec F S512x512 .f32) (x5 : Vec F S1x512 .f32) (x6 : Vec F S512x20 .f32) (x7 : Vec F S1x20 .f32) (x8 : Vec F S1x20 .i32) (x9 : Vec F S1x20 .i32) (x10 : Vec F S1x20 .f32) (x11 : Vec F S1x20 .f32) (x12 : Vec F S1x20 .i32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = k0_pay8 x1 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12)]
  unfold kernelRun0_A
  dsimp only
  sl_unfold_words
  rw [View.canon_unit_zero off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S4096x256) off0, View.ld_unit_zero (S := S1x20) off0, View.ld_unit_zero (S := S256x512) off0, View.ld_unit_zero (S := S1x512) off0, View.ld_unit_zero (S := S512x512) off0, View.ld_unit_zero (S := S512x20) off0, View.ld_unit_zero (S := S1x256) off0, View.ld_unit_zero (S := S512x24) off0, View.ld_unit_zero (S := S1x24) off0]

/-- At the first point scratch buffer 4 ends with the folded bias row. -/
theorem sout_A_4 (c : Dev nD) (i : grid0.Coords) (arg1 : Memref sig .tc .vmem S4096x256 .f32) (harg1 : arg1.IsWhole) (arg2 : Memref sig .tc .vmem S1x20 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x20 .f32) (harg7 : arg7.IsWhole) (arg8 : Memref sig .tc .vmem S1x20 .f32) (harg8 : arg8.IsWhole) (arg9 : Memref sig .tc .vmem S1x20 .i32) (harg9 : arg9.IsWhole) (arg10 : Memref sig .tc .vmem S1x20 .i32) (harg10 : arg10.IsWhole) (arg11 : Memref sig .tc .vmem S1x20 .f32) (harg11 : arg11.IsWhole) (arg12 : Memref sig .tc .vmem S1x20 .f32) (harg12 : arg12.IsWhole) (arg13 : Memref sig .tc .vmem S1x20 .i32) (harg13 : arg13.IsWhole) (arg14 : Memref sig .tc .vmem S4096x24 .f32) (harg14 : arg14.IsWhole) (arg15 : Memref sig .tc .vmem S256x512 .fp8e4m3) (harg15 : arg15.IsWhole) (arg16 : Memref sig .tc .vmem S512x512 .fp8e4m3) (harg16 : arg16.IsWhole) (arg17 : Memref sig .tc .vmem S512x24 .bf16) (harg17 : arg17.IsWhole) (arg18 : Memref sig .tc .vmem S1x256 .f32) (harg18 : arg18.IsWhole) (arg19 : Memref sig .tc .vmem S1x24 .f32) (harg19 : arg19.IsWhole) (arg20 : Memref sig .tc .vmem S1x512 .bf16) (harg20 : arg20.IsWhole) (arg21 : Memref sig .tc .vmem S1x512 .bf16) (harg21 : arg21.IsWhole) (hc0 : cond0_0 i)
    (x0 : Vec F S4096x256 .f32) (x1 : Vec F S1x20 .f32) (x2 : Vec F S256x512 .f32) (x3 : Vec F S1x512 .f32) (x4 : Vec F S512x512 .f32) (x5 : Vec F S1x512 .f32) (x6 : Vec F S512x20 .f32) (x7 : Vec F S1x20 .f32) (x8 : Vec F S1x20 .i32) (x9 : Vec F S1x20 .i32) (x10 : Vec F S1x20 .f32) (x11 : Vec F S1x20 .f32) (x12 : Vec F S1x20 .i32) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = k0_pay7 (k0_pay4 x12 x8 x9 x10 x11) (k0_pay5 x12 x8) x7 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12)]
  unfold kernelRun0_A
  dsimp only
  sl_unfold_words
  rw [View.canon_unit_zero off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S4096x256) off0, View.ld_unit_zero (S := S1x20) off0, View.ld_unit_zero (S := S256x512) off0, View.ld_unit_zero (S := S1x512) off0, View.ld_unit_zero (S := S512x512) off0, View.ld_unit_zero (S := S512x20) off0, View.ld_unit_zero (S := S1x256) off0, View.ld_unit_zero (S := S512x24) off0, View.ld_unit_zero (S := S1x24) off0]

/-- At the first point scratch buffer 5 ends with the first bias row. -/
theorem sout_A_5 (c : Dev nD) (i : grid0.Coords) (arg1 : Memref sig .tc .vmem S4096x256 .f32) (harg1 : arg1.IsWhole) (arg2 : Memref sig .tc .vmem S1x20 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x20 .f32) (harg7 : arg7.IsWhole) (arg8 : Memref sig .tc .vmem S1x20 .f32) (harg8 : arg8.IsWhole) (arg9 : Memref sig .tc .vmem S1x20 .i32) (harg9 : arg9.IsWhole) (arg10 : Memref sig .tc .vmem S1x20 .i32) (harg10 : arg10.IsWhole) (arg11 : Memref sig .tc .vmem S1x20 .f32) (harg11 : arg11.IsWhole) (arg12 : Memref sig .tc .vmem S1x20 .f32) (harg12 : arg12.IsWhole) (arg13 : Memref sig .tc .vmem S1x20 .i32) (harg13 : arg13.IsWhole) (arg14 : Memref sig .tc .vmem S4096x24 .f32) (harg14 : arg14.IsWhole) (arg15 : Memref sig .tc .vmem S256x512 .fp8e4m3) (harg15 : arg15.IsWhole) (arg16 : Memref sig .tc .vmem S512x512 .fp8e4m3) (harg16 : arg16.IsWhole) (arg17 : Memref sig .tc .vmem S512x24 .bf16) (harg17 : arg17.IsWhole) (arg18 : Memref sig .tc .vmem S1x256 .f32) (harg18 : arg18.IsWhole) (arg19 : Memref sig .tc .vmem S1x24 .f32) (harg19 : arg19.IsWhole) (arg20 : Memref sig .tc .vmem S1x512 .bf16) (harg20 : arg20.IsWhole) (arg21 : Memref sig .tc .vmem S1x512 .bf16) (harg21 : arg21.IsWhole) (hc0 : cond0_0 i)
    (x0 : Vec F S4096x256 .f32) (x1 : Vec F S1x20 .f32) (x2 : Vec F S256x512 .f32) (x3 : Vec F S1x512 .f32) (x4 : Vec F S512x512 .f32) (x5 : Vec F S1x512 .f32) (x6 : Vec F S512x20 .f32) (x7 : Vec F S1x20 .f32) (x8 : Vec F S1x20 .i32) (x9 : Vec F S1x20 .i32) (x10 : Vec F S1x20 .f32) (x11 : Vec F S1x20 .f32) (x12 : Vec F S1x20 .i32) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = k0_pay12 x3 := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12)]
  unfold kernelRun0_A
  dsimp only
  sl_unfold_words
  rw [View.canon_unit_zero off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S4096x256) off0, View.ld_unit_zero (S := S1x20) off0, View.ld_unit_zero (S := S256x512) off0, View.ld_unit_zero (S := S1x512) off0, View.ld_unit_zero (S := S512x512) off0, View.ld_unit_zero (S := S512x20) off0, View.ld_unit_zero (S := S1x256) off0, View.ld_unit_zero (S := S512x24) off0, View.ld_unit_zero (S := S1x24) off0]

/-- At the first point scratch buffer 6 ends with the second bias row. -/
theorem sout_A_6 (c : Dev nD) (i : grid0.Coords) (arg1 : Memref sig .tc .vmem S4096x256 .f32) (harg1 : arg1.IsWhole) (arg2 : Memref sig .tc .vmem S1x20 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x20 .f32) (harg7 : arg7.IsWhole) (arg8 : Memref sig .tc .vmem S1x20 .f32) (harg8 : arg8.IsWhole) (arg9 : Memref sig .tc .vmem S1x20 .i32) (harg9 : arg9.IsWhole) (arg10 : Memref sig .tc .vmem S1x20 .i32) (harg10 : arg10.IsWhole) (arg11 : Memref sig .tc .vmem S1x20 .f32) (harg11 : arg11.IsWhole) (arg12 : Memref sig .tc .vmem S1x20 .f32) (harg12 : arg12.IsWhole) (arg13 : Memref sig .tc .vmem S1x20 .i32) (harg13 : arg13.IsWhole) (arg14 : Memref sig .tc .vmem S4096x24 .f32) (harg14 : arg14.IsWhole) (arg15 : Memref sig .tc .vmem S256x512 .fp8e4m3) (harg15 : arg15.IsWhole) (arg16 : Memref sig .tc .vmem S512x512 .fp8e4m3) (harg16 : arg16.IsWhole) (arg17 : Memref sig .tc .vmem S512x24 .bf16) (harg17 : arg17.IsWhole) (arg18 : Memref sig .tc .vmem S1x256 .f32) (harg18 : arg18.IsWhole) (arg19 : Memref sig .tc .vmem S1x24 .f32) (harg19 : arg19.IsWhole) (arg20 : Memref sig .tc .vmem S1x512 .bf16) (harg20 : arg20.IsWhole) (arg21 : Memref sig .tc .vmem S1x512 .bf16) (harg21 : arg21.IsWhole) (hc0 : cond0_0 i)
    (x0 : Vec F S4096x256 .f32) (x1 : Vec F S1x20 .f32) (x2 : Vec F S256x512 .f32) (x3 : Vec F S1x512 .f32) (x4 : Vec F S512x512 .f32) (x5 : Vec F S1x512 .f32) (x6 : Vec F S512x20 .f32) (x7 : Vec F S1x20 .f32) (x8 : Vec F S1x20 .i32) (x9 : Vec F S1x20 .i32) (x10 : Vec F S1x20 .f32) (x11 : Vec F S1x20 .f32) (x12 : Vec F S1x20 .i32) :
    sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = k0_pay13 x5 := by
  unfold sout0_A_6
  rw [View.read_writes_eq_canon _ _ _ (scover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12)]
  unfold kernelRun0_A
  dsimp only
  sl_unfold_words
  rw [View.canon_unit_zero off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S4096x256) off0, View.ld_unit_zero (S := S1x20) off0, View.ld_unit_zero (S := S256x512) off0, View.ld_unit_zero (S := S1x512) off0, View.ld_unit_zero (S := S512x512) off0, View.ld_unit_zero (S := S512x20) off0, View.ld_unit_zero (S := S1x256) off0, View.ld_unit_zero (S := S512x24) off0, View.ld_unit_zero (S := S1x24) off0]

/-- At the first point the output block is computed from what that point itself put into the scratch buffers. -/
theorem out_A (c : Dev nD) (i : grid0.Coords) (arg1 : Memref sig .tc .vmem S4096x256 .f32) (harg1 : arg1.IsWhole) (arg2 : Memref sig .tc .vmem S1x20 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x20 .f32) (harg7 : arg7.IsWhole) (arg8 : Memref sig .tc .vmem S1x20 .f32) (harg8 : arg8.IsWhole) (arg9 : Memref sig .tc .vmem S1x20 .i32) (harg9 : arg9.IsWhole) (arg10 : Memref sig .tc .vmem S1x20 .i32) (harg10 : arg10.IsWhole) (arg11 : Memref sig .tc .vmem S1x20 .f32) (harg11 : arg11.IsWhole) (arg12 : Memref sig .tc .vmem S1x20 .f32) (harg12 : arg12.IsWhole) (arg13 : Memref sig .tc .vmem S1x20 .i32) (harg13 : arg13.IsWhole) (arg14 : Memref sig .tc .vmem S4096x24 .f32) (harg14 : arg14.IsWhole) (arg15 : Memref sig .tc .vmem S256x512 .fp8e4m3) (harg15 : arg15.IsWhole) (arg16 : Memref sig .tc .vmem S512x512 .fp8e4m3) (harg16 : arg16.IsWhole) (arg17 : Memref sig .tc .vmem S512x24 .bf16) (harg17 : arg17.IsWhole) (arg18 : Memref sig .tc .vmem S1x256 .f32) (harg18 : arg18.IsWhole) (arg19 : Memref sig .tc .vmem S1x24 .f32) (harg19 : arg19.IsWhole) (arg20 : Memref sig .tc .vmem S1x512 .bf16) (harg20 : arg20.IsWhole) (arg21 : Memref sig .tc .vmem S1x512 .bf16) (harg21 : arg21.IsWhole) (hc0 : cond0_0 i)
    (x0 : Vec F S4096x256 .f32) (x1 : Vec F S1x20 .f32) (x2 : Vec F S256x512 .f32) (x3 : Vec F S1x512 .f32) (x4 : Vec F S512x512 .f32) (x5 : Vec F S1x512 .f32) (x6 : Vec F S512x20 .f32) (x7 : Vec F S1x20 .f32) (x8 : Vec F S1x20 .i32) (x9 : Vec F S1x20 .i32) (x10 : Vec F S1x20 .f32) (x11 : Vec F S1x20 .f32) (x12 : Vec F S1x20 .i32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = k0_pay1 (k0_pay14 x0 (k0_pay8 x1) (k0_pay9 x2) (k0_pay12 x3) (k0_pay11 (k0_pay10 x4)) (k0_pay13 x5) (k0_pay6 (k0_pay5 x12 x8) x6)) (k0_pay7 (k0_pay4 x12 x8 x9 x10 x11) (k0_pay5 x12 x8) x7) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12)]
  unfold kernelRun0_A
  dsimp only
  sl_unfold_words
  rw [View.canon_unit_zero off0]
  simp only [View.readCov_unit_zero (S := S256x512) _ off0, View.readCov_unit_zero (S := S512x512) _ off0, View.readCov_unit_zero (S := S512x24) _ off0, View.readCov_unit_zero (S := S1x256) _ off0, View.readCov_unit_zero (S := S1x24) _ off0, View.readCov_unit_zero (S := S1x512) _ off0, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S4096x256) off0, View.ld_unit_zero (S := S1x20) off0, View.ld_unit_zero (S := S256x512) off0, View.ld_unit_zero (S := S1x512) off0, View.ld_unit_zero (S := S512x512) off0, View.ld_unit_zero (S := S512x20) off0, View.ld_unit_zero (S := S1x256) off0, View.ld_unit_zero (S := S512x24) off0, View.ld_unit_zero (S := S1x24) off0]

/-- At a later point the output block is computed from what the scratch buffers hold. -/
theorem out_B (c : Dev nD) (i : grid0.Coords) (arg1 : Memref sig .tc .vmem S4096x256 .f32) (harg1 : arg1.IsWhole) (arg2 : Memref sig .tc .vmem S1x20 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x20 .f32) (harg7 : arg7.IsWhole) (arg8 : Memref sig .tc .vmem S1x20 .f32) (harg8 : arg8.IsWhole) (arg9 : Memref sig .tc .vmem S1x20 .i32) (harg9 : arg9.IsWhole) (arg10 : Memref sig .tc .vmem S1x20 .i32) (harg10 : arg10.IsWhole) (arg11 : Memref sig .tc .vmem S1x20 .f32) (harg11 : arg11.IsWhole) (arg12 : Memref sig .tc .vmem S1x20 .f32) (harg12 : arg12.IsWhole) (arg13 : Memref sig .tc .vmem S1x20 .i32) (harg13 : arg13.IsWhole) (arg14 : Memref sig .tc .vmem S4096x24 .f32) (harg14 : arg14.IsWhole) (arg15 : Memref sig .tc .vmem S256x512 .fp8e4m3) (harg15 : arg15.IsWhole) (arg16 : Memref sig .tc .vmem S512x512 .fp8e4m3) (harg16 : arg16.IsWhole) (arg17 : Memref sig .tc .vmem S512x24 .bf16) (harg17 : arg17.IsWhole) (arg18 : Memref sig .tc .vmem S1x256 .f32) (harg18 : arg18.IsWhole) (arg19 : Memref sig .tc .vmem S1x24 .f32) (harg19 : arg19.IsWhole) (arg20 : Memref sig .tc .vmem S1x512 .bf16) (harg20 : arg20.IsWhole) (arg21 : Memref sig .tc .vmem S1x512 .bf16) (harg21 : arg21.IsWhole) (hc0 : ¬cond0_0 i)
    (x0 : Vec F S4096x256 .f32) (x1 : Vec F S1x20 .f32) (x2 : Vec F S256x512 .f32) (x3 : Vec F S1x512 .f32) (x4 : Vec F S512x512 .f32) (x5 : Vec F S1x512 .f32) (x6 : Vec F S512x20 .f32) (x7 : Vec F S1x20 .f32) (x8 : Vec F S1x20 .i32) (x9 : Vec F S1x20 .i32) (x10 : Vec F S1x20 .f32) (x11 : Vec F S1x20 .f32) (x12 : Vec F S1x20 .i32) (xs0 : Vec F S256x512 .fp8e4m3) (xs1 : Vec F S512x512 .fp8e4m3) (xs2 : Vec F S512x24 .bf16) (xs3 : Vec F S1x256 .f32) (xs4 : Vec F S1x24 .f32) (xs5 : Vec F S1x512 .bf16) (xs6 : Vec F S1x512 .bf16) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 xs1 xs2 xs3 xs4 xs5 xs6 = k0_pay1 (k0_pay14 x0 xs3 xs0 xs5 xs1 xs6 xs2) xs4 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 xs1 xs2 xs3 xs4 xs5 xs6)]
  unfold kernelRun0_B
  dsimp only
  sl_unfold_words
  rw [View.canon_unit_zero off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S4096x256) off0, View.ld_unit_zero (S := S1x20) off0, View.ld_unit_zero (S := S256x512) off0, View.ld_unit_zero (S := S1x512) off0, View.ld_unit_zero (S := S512x512) off0, View.ld_unit_zero (S := S512x20) off0, View.ld_unit_zero (S := S1x256) off0, View.ld_unit_zero (S := S512x24) off0, View.ld_unit_zero (S := S1x24) off0, harg15.read_unread, harg16.read_unread, harg17.read_unread, harg18.read_unread, harg19.read_unread, harg20.read_unread, harg21.read_unread]

end Cert.KernelIdeal.Blk

end
-- ==== Proof.Fold.lean ====
/-
  What the output array holds after the last grid point, and what each grid point's input blocks are.

  The first grid point fills the scratch buffers from the whole arrays, and every later point finds them as the first left them
  (`after_point`), so every point computes its output block from its own rows of the observations and the same prepared arrays.
-/
module

public import proofs.«01_k».proof.Proof.Block
public import Idealize.ShloMosaic.Lib.Pointwise

@[expose] public section

set_option maxRecDepth 16384

noncomputable section

open Idealize.ShloMosaic Idealize.ShloMosaic.TcCoe Idealize.SL.Sem

namespace Cert.KernelIdeal.Fold

open Cert.KernelIdeal Cert.KernelIdeal.Gen Cert.KernelIdeal.Value

variable {F : FTy → Type} [FloatOps F] (m : (ℓ : Loc nD τ sig) → Buf (Elt F) ℓ)

/-- The first grid point. -/
abbrev t0 : Fin cfg0.N := ⟨0, by rw [show cfg0.N = 4 from N_0]; decide⟩

/-- The folded last weight matrix. -/
def w3s (c : Dev nD) : Vec F S512x24 .bf16 := k0_pay6 (k0_pay5 (iblk m c 12 t0) (iblk m c 8 t0)) (iblk m c 6 t0)

/-- The folded last bias. -/
def b3s (c : Dev nD) : Vec F S1x24 .f32 :=
  k0_pay7 (k0_pay4 (iblk m c 12 t0) (iblk m c 8 t0) (iblk m c 9 t0) (iblk m c 10 t0) (iblk m c 11 t0))
    (k0_pay5 (iblk m c 12 t0) (iblk m c 8 t0)) (iblk m c 7 t0)

/-- The output block of point `t`: its rows of the observations through the two hidden layers and the folded last layer. -/
def block (c : Dev nD) (t : Fin cfg0.N) : Vec F S4096x24 .f32 :=
  k0_pay1 (k0_pay14 (iblk m c 0 t) (k0_pay8 (iblk m c 1 t0)) (k0_pay9 (iblk m c 2 t0)) (k0_pay12 (iblk m c 3 t0))
    (k0_pay11 (k0_pay10 (iblk m c 4 t0))) (k0_pay13 (iblk m c 5 t0)) (w3s m c)) (b3s m c)

/-- After every point: its output block, and the scratch buffers as the first point left them. -/
theorem after_point (c : Dev nD) (n : ℕ) (hn : n < cfg0.N) :
    outsAt0 m c n hn = (block m c ⟨n, hn⟩, k0_pay9 (iblk m c 2 t0), k0_pay11 (k0_pay10 (iblk m c 4 t0)), w3s m c, k0_pay8 (iblk m c 1 t0),
      b3s m c, k0_pay12 (iblk m c 3 t0), k0_pay13 (iblk m c 5 t0)) := by
  have hN : cfg0.N = 4 := N_0
  induction n with
  | zero =>
    rw [outsAt0_zero, stAt0_A m c ⟨0, hn⟩ _ (Nat.zero_mod _), Blk.out_A, Blk.sout_A_0, Blk.sout_A_1, Blk.sout_A_2, Blk.sout_A_3, Blk.sout_A_4,
      Blk.sout_A_5, Blk.sout_A_6]
    rfl
  | succ n ih =>
    rw [outsAt0_succ, stAt0_B m c ⟨n + 1, hn⟩ _ (by show ¬(n + 1) % 4 = 0; omega), ih (Nat.lt_of_succ_lt hn), Blk.out_B]
    rfl

/-- The output array, at an entry: that entry of the block its row lies in. -/
theorem result_block (c : Dev nD) (r : Fin 16384) (q : Fin 24) :
    G13 m c (ix2 r q) = block m c ⟨r.val / 4096, by rw [show cfg0.N = 4 from N_0]; omega⟩ (ix2 ⟨r.val % 4096, by omega⟩ q) := by
  have hp : pt13Of (ix2 r q) = r.val / 4096 := by
    show 1 * (r.val / 4096 - 0) + 1 * (q.val / 24 - 0) = _
    omega
  have hlt : pt13Of (ix2 r q) < cfg0.N := by rw [hp, show cfg0.N = 4 from N_0]; omega
  unfold G13
  rw [dif_pos hlt, ← outsAt0_sweep m c _ hlt, after_point]
  have hl : loc13Of (ix2 r q) = ix2 ⟨r.val % 4096, by omega⟩ q := by
    funext a
    apply Fin.ext
    match a with
    | ⟨0, _⟩ => show r.val % 4096 = _; rfl
    | ⟨1, _⟩ => show q.val % 24 = q.val; omega
  rw [hl]
  simp only [hp]

end Cert.KernelIdeal.Fold

end
-- ==== Proof.Blocks.lean ====
/-
  What each grid point's input blocks are, entry by entry: point `t` reads rows 4096 t to 4096 t + 4095 of the observations; every other
  input block is a whole array, the vectors among them as rows of one-row matrices.
-/
module

public import proofs.«01_k».proof.Proof.Fold

@[expose] public section

set_option maxRecDepth 16384

noncomputable section

open Idealize.ShloMosaic Idealize.ShloMosaic.TcCoe Idealize.SL.Sem

namespace Cert.KernelIdeal.Fold

open Cert.KernelIdeal Cert.KernelIdeal.Gen Cert.KernelIdeal.Value

variable {F : FTy → Type} [FloatOps F] (m : (ℓ : Loc nD τ sig) → Buf (Elt F) ℓ)

/-- The block index of the observations at point `t` is `(t, 0)`. -/
theorem index_obs : ∀ t : Fin cfg0.N, win0_0.index t 0 = t.val ∧ win0_0.index t 1 = 0 := by decide

/-- Entry `(r, q)` of the observations' block at point `t`. -/
theorem obs_block (c : Dev nD) (t : Fin cfg0.N) (r : Fin 4096) (q : Fin 256) (h : 4096 * t.val + r.val < 16384) :
    (iblk m c 0 t : Vec F S4096x256 .f32) (ix2 r q) = m ((c : Thread nD τ).loc main_arg0) (ix2 ⟨4096 * t.val + r.val, h⟩ q) := by
  have hi := index_obs t
  unfold iblk
  rw [View.read_apply]
  show V m c main_arg0 _ = m (c.tc.loc main_arg0) _
  rw [V_main_arg0]
  congr 1
  funext a
  apply Fin.ext
  match a with
  | ⟨0, _⟩ => show win0_0.index t 0 * 4096 + 1 * r.val = 4096 * t.val + r.val; rw [hi.1]; omega
  | ⟨1, _⟩ => show win0_0.index t 1 * 256 + 1 * q.val = q.val; rw [hi.2]; omega

/-- The previous actions, read by the first point, entry by entry. -/
theorem block_1 (c : Dev nD) (i : Fin 1) (j : Fin 20) :
    (iblk m c 1 t0 : Vec F S1x20 .f32) (ix2 i j) = m ((c : Thread nD τ).loc main_arg1) (ix2 i j) := by
  have hi : win0_1.index t0 0 = 0 ∧ win0_1.index t0 1 = 0 := by decide
  unfold iblk
  rw [View.read_apply]
  show V m c main_arg1 _ = m (c.tc.loc main_arg1) _
  rw [V_main_arg1]
  congr 1
  funext a
  apply Fin.ext
  match a with
  | ⟨0, _⟩ => show win0_1.index t0 0 * 1 + 1 * i.val = i.val; rw [hi.1]; omega
  | ⟨1, _⟩ => show win0_1.index t0 1 * 20 + 1 * j.val = j.val; rw [hi.2]; omega

/-- The first weight matrix, read by the first point, entry by entry. -/
theorem block_2 (c : Dev nD) (i : Fin 256) (j : Fin 512) :
    (iblk m c 2 t0 : Vec F S256x512 .f32) (ix2 i j) = m ((c : Thread nD τ).loc main_arg2) (ix2 i j) := by
  have hi : win0_2.index t0 0 = 0 ∧ win0_2.index t0 1 = 0 := by decide
  unfold iblk
  rw [View.read_apply]
  show V m c main_arg2 _ = m (c.tc.loc main_arg2) _
  rw [V_main_arg2]
  congr 1
  funext a
  apply Fin.ext
  match a with
  | ⟨0, _⟩ => show win0_2.index t0 0 * 256 + 1 * i.val = i.val; rw [hi.1]; omega
  | ⟨1, _⟩ => show win0_2.index t0 1 * 512 + 1 * j.val = j.val; rw [hi.2]; omega

/-- The second weight matrix, read by the first point, entry by entry. -/
theorem block_4 (c : Dev nD) (i : Fin 512) (j : Fin 512) :
    (iblk m c 4 t0 : Vec F S512x512 .f32) (ix2 i j) = m ((c : Thread nD τ).loc main_arg4) (ix2 i j) := by
  have hi : win0_4.index t0 0 = 0 ∧ win0_4.index t0 1 = 0 := by decide
  unfold iblk
  rw [View.read_apply]
  show V m c main_arg4 _ = m (c.tc.loc main_arg4) _
  rw [V_main_arg4]
  congr 1
  funext a
  apply Fin.ext
  match a with
  | ⟨0, _⟩ => show win0_4.index t0 0 * 512 + 1 * i.val = i.val; rw [hi.1]; omega
  | ⟨1, _⟩ => show win0_4.index t0 1 * 512 + 1 * j.val = j.val; rw [hi.2]; omega

/-- The last weight matrix, read by the first point, entry by entry. -/
theorem block_6 (c : Dev nD) (i : Fin 512) (j : Fin 20) :
    (iblk m c 6 t0 : Vec F S512x20 .f32) (ix2 i j) = m ((c : Thread nD τ).loc main_arg6) (ix2 i j) := by
  have hi : win0_6.index t0 0 = 0 ∧ win0_6.index t0 1 = 0 := by decide
  unfold iblk
  rw [View.read_apply]
  show V m c main_arg6 _ = m (c.tc.loc main_arg6) _
  rw [V_main_arg6]
  congr 1
  funext a
  apply Fin.ext
  match a with
  | ⟨0, _⟩ => show win0_6.index t0 0 * 512 + 1 * i.val = i.val; rw [hi.1]; omega
  | ⟨1, _⟩ => show win0_6.index t0 1 * 20 + 1 * j.val = j.val; rw [hi.2]; omega

/-- The first bias, read by the first point, entry by entry. -/
theorem block_3 (c : Dev nD) (j : Fin 512) :
    (iblk m c 3 t0 : Vec F S1x512 .f32) (ix2 0 j) = m ((c : Thread nD τ).loc main_arg3) (ix1 j) := by
  have hi : win0_3.index t0 0 = 0 ∧ win0_3.index t0 1 = 0 := by decide
  have hv : V m c main_v0 = shapeCast S1x512 (m ((c : Thread nD τ).loc main_arg3)) shapeCasts_S512_S1x512 := by
    show StableHlo.after hostOps0 _ (Proc.devRef .tc main_v0) = _
    after_results
    rfl
  have hj : (iblk m c 3 t0 : Vec F S1x512 .f32) (ix2 0 j) = V m c main_v0 (ix2 0 j) := by
    unfold iblk
    rw [View.read_apply]
    show V m c main_v0 _ = V m c main_v0 _
    congr 1
    funext a
    apply Fin.ext
    match a with
    | ⟨0, _⟩ => show win0_3.index t0 0 * 1 + 1 * 0 = 0; rw [hi.1]
    | ⟨1, _⟩ => show win0_3.index t0 1 * 512 + 1 * j.val = j.val; rw [hi.2]; omega
  rw [hj, hv]
  pointwise

/-- The second bias, read by the first point, entry by entry. -/
theorem block_5 (c : Dev nD) (j : Fin 512) :
    (iblk m c 5 t0 : Vec F S1x512 .f32) (ix2 0 j) = m ((c : Thread nD τ).loc main_arg5) (ix1 j) := by
  have hi : win0_5.index t0 0 = 0 ∧ win0_5.index t0 1 = 0 := by decide
  have hv : V m c main_v1 = shapeCast S1x512 (m ((c : Thread nD τ).loc main_arg5)) shapeCasts_S512_S1x512 := by
    show StableHlo.after hostOps0 _ (Proc.devRef .tc main_v1) = _
    after_results
    rfl
  have hj : (iblk m c 5 t0 : Vec F S1x512 .f32) (ix2 0 j) = V m c main_v1 (ix2 0 j) := by
    unfold iblk
    rw [View.read_apply]
    show V m c main_v1 _ = V m c main_v1 _
    congr 1
    funext a
    apply Fin.ext
    match a with
    | ⟨0, _⟩ => show win0_5.index t0 0 * 1 + 1 * 0 = 0; rw [hi.1]
    | ⟨1, _⟩ => show win0_5.index t0 1 * 512 + 1 * j.val = j.val; rw [hi.2]; omega
  rw [hj, hv]
  pointwise

/-- The last bias, read by the first point, entry by entry. -/
theorem block_7 (c : Dev nD) (j : Fin 20) :
    (iblk m c 7 t0 : Vec F S1x20 .f32) (ix2 0 j) = m ((c : Thread nD τ).loc main_arg7) (ix1 j) := by
  have hi : win0_7.index t0 0 = 0 ∧ win0_7.index t0 1 = 0 := by decide
  have hv : V m c main_v2 = shapeCast S1x20 (m ((c : Thread nD τ).loc main_arg7)) shapeCasts_S20_S1x20 := by
    show StableHlo.after hostOps0 _ (Proc.devRef .tc main_v2) = _
    after_results
    rfl
  have hj : (iblk m c 7 t0 : Vec F S1x20 .f32) (ix2 0 j) = V m c main_v2 (ix2 0 j) := by
    unfold iblk
    rw [View.read_apply]
    show V m c main_v2 _ = V m c main_v2 _
    congr 1
    funext a
    apply Fin.ext
    match a with
    | ⟨0, _⟩ => show win0_7.index t0 0 * 1 + 1 * 0 = 0; rw [hi.1]
    | ⟨1, _⟩ => show win0_7.index t0 1 * 20 + 1 * j.val = j.val; rw [hi.2]; omega
  rw [hj, hv]
  pointwise

/-- The first index table, read by the first point, entry by entry. -/
theorem block_8 (c : Dev nD) (j : Fin 20) :
    (iblk m c 8 t0 : Vec F S1x20 .i32) (ix2 0 j) = m ((c : Thread nD τ).loc main_arg8) (ix1 j) := by
  have hi : win0_8.index t0 0 = 0 ∧ win0_8.index t0 1 = 0 := by decide
  have hv : V m c main_v3 = shapeCast S1x20 (m ((c : Thread nD τ).loc main_arg8)) shapeCasts_S20_S1x20 := by
    show StableHlo.after hostOps0 _ (Proc.devRef .tc main_v3) = _
    after_results
    rfl
  have hj : (iblk m c 8 t0 : Vec F S1x20 .i32) (ix2 0 j) = V m c main_v3 (ix2 0 j) := by
    unfold iblk
    rw [View.read_apply]
    show V m c main_v3 _ = V m c main_v3 _
    congr 1
    funext a
    apply Fin.ext
    match a with
    | ⟨0, _⟩ => show win0_8.index t0 0 * 1 + 1 * 0 = 0; rw [hi.1]
    | ⟨1, _⟩ => show win0_8.index t0 1 * 20 + 1 * j.val = j.val; rw [hi.2]; omega
  rw [hj, hv]
  pointwise

/-- The second index table, read by the first point, entry by entry. -/
theorem block_9 (c : Dev nD) (j : Fin 20) :
    (iblk m c 9 t0 : Vec F S1x20 .i32) (ix2 0 j) = m ((c : Thread nD τ).loc main_arg9) (ix1 j) := by
  have hi : win0_9.index t0 0 = 0 ∧ win0_9.index t0 1 = 0 := by decide
  have hv : V m c main_v4 = shapeCast S1x20 (m ((c : Thread nD τ).loc main_arg9)) shapeCasts_S20_S1x20 := by
    show StableHlo.after hostOps0 _ (Proc.devRef .tc main_v4) = _
    after_results
    rfl
  have hj : (iblk m c 9 t0 : Vec F S1x20 .i32) (ix2 0 j) = V m c main_v4 (ix2 0 j) := by
    unfold iblk
    rw [View.read_apply]
    show V m c main_v4 _ = V m c main_v4 _
    congr 1
    funext a
    apply Fin.ext
    match a with
    | ⟨0, _⟩ => show win0_9.index t0 0 * 1 + 1 * 0 = 0; rw [hi.1]
    | ⟨1, _⟩ => show win0_9.index t0 1 * 20 + 1 * j.val = j.val; rw [hi.2]; omega
  rw [hj, hv]
  pointwise

/-- The offsets, read by the first point, entry by entry. -/
theorem block_10 (c : Dev nD) (j : Fin 20) :
    (iblk m c 10 t0 : Vec F S1x20 .f32) (ix2 0 j) = m ((c : Thread nD τ).loc main_arg10) (ix1 j) := by
  have hi : win0_10.index t0 0 = 0 ∧ win0_10.index t0 1 = 0 := by decide
  have hv : V m c main_v5 = shapeCast S1x20 (m ((c : Thread nD τ).loc main_arg10)) shapeCasts_S20_S1x20 := by
    show StableHlo.after hostOps0 _ (Proc.devRef .tc main_v5) = _
    after_results
    rfl
  have hj : (iblk m c 10 t0 : Vec F S1x20 .f32) (ix2 0 j) = V m c main_v5 (ix2 0 j) := by
    unfold iblk
    rw [View.read_apply]
    show V m c main_v5 _ = V m c main_v5 _
    congr 1
    funext a
    apply Fin.ext
    match a with
    | ⟨0, _⟩ => show win0_10.index t0 0 * 1 + 1 * 0 = 0; rw [hi.1]
    | ⟨1, _⟩ => show win0_10.index t0 1 * 20 + 1 * j.val = j.val; rw [hi.2]; omega
  rw [hj, hv]
  pointwise

/-- The defaults, read by the first point, entry by entry. -/
theorem block_11 (c : Dev nD) (j : Fin 20) :
    (iblk m c 11 t0 : Vec F S1x20 .f32) (ix2 0 j) = m ((c : Thread nD τ).loc main_arg11) (ix1 j) := by
  have hi : win0_11.index t0 0 = 0 ∧ win0_11.index t0 1 = 0 := by decide
  have hv : V m c main_v6 = shapeCast S1x20 (m ((c : Thread nD τ).loc main_arg11)) shapeCasts_S20_S1x20 := by
    show StableHlo.after hostOps0 _ (Proc.devRef .tc main_v6) = _
    after_results
    rfl
  have hj : (iblk m c 11 t0 : Vec F S1x20 .f32) (ix2 0 j) = V m c main_v6 (ix2 0 j) := by
    unfold iblk
    rw [View.read_apply]
    show V m c main_v6 _ = V m c main_v6 _
    congr 1
    funext a
    apply Fin.ext
    match a with
    | ⟨0, _⟩ => show win0_11.index t0 0 * 1 + 1 * 0 = 0; rw [hi.1]
    | ⟨1, _⟩ => show win0_11.index t0 1 * 20 + 1 * j.val = j.val; rw [hi.2]; omega
  rw [hj, hv]
  pointwise

/-- The kept columns, read by the first point, entry by entry. -/
theorem block_12 (c : Dev nD) (j : Fin 20) :
    (iblk m c 12 t0 : Vec F S1x20 .i32) (ix2 0 j) = m ((c : Thread nD τ).loc main_arg12) (ix1 j) := by
  have hi : win0_12.index t0 0 = 0 ∧ win0_12.index t0 1 = 0 := by decide
  have hv : V m c main_v7 = shapeCast S1x20 (m ((c : Thread nD τ).loc main_arg12)) shapeCasts_S20_S1x20 := by
    show StableHlo.after hostOps0 _ (Proc.devRef .tc main_v7) = _
    after_results
    rfl
  have hj : (iblk m c 12 t0 : Vec F S1x20 .i32) (ix2 0 j) = V m c main_v7 (ix2 0 j) := by
    unfold iblk
    rw [View.read_apply]
    show V m c main_v7 _ = V m c main_v7 _
    congr 1
    funext a
    apply Fin.ext
    match a with
    | ⟨0, _⟩ => show win0_12.index t0 0 * 1 + 1 * 0 = 0; rw [hi.1]
    | ⟨1, _⟩ => show win0_12.index t0 1 * 20 + 1 * j.val = j.val; rw [hi.2]; omega
  rw [hj, hv]
  pointwise

end Cert.KernelIdeal.Fold

end
-- ==== Proof.KernelVal.lean ====
/-
  What the kernel's output array holds, entry by entry: the folded last layer of the row's second hidden layer.
-/
module

public import proofs.«01_k».proof.Proof.Blocks
public import proofs.«01_k».proof.Proof.Spec
public import Idealize.ShloMosaic.Lib.Routing.OpsPair

@[expose] public section

set_option maxRecDepth 16384

noncomputable section

open Idealize.ShloMosaic Idealize.ShloMosaic.TcCoe Idealize.SL.Sem

namespace Cert.KernelIdeal.Val

open Cert.KernelIdeal Cert.KernelIdeal.Gen Cert.KernelIdeal.Value Cert.Spec

/-- The kept columns padded to 24 words; the four padding words name no column. -/
def kept (kp : Fin 20 → BitVec 32) (q : Fin 24) : BitVec 32 := if h : q.val < 20 then kp ⟨q.val, h⟩ else 4294967295#32

/-- The 28 selection indicators of one kept column. -/
theorem keep_onehot (kp : Vec Ideal S1x20 .i32) (p : Fin 28) (q : Fin 24) :
    (k0_pay2 (F := Ideal) kp (ix2 p q) : EReal) = if kept (fun i => kp (ix2 0 i)) q = BitVec.ofNat 32 p.val then 1 else 0 := by
  pointwise [k0_pay2]
  exact indicator _ _

/-- The product of the selection matrices of the first index table and of the kept columns. -/
theorem select_apply (kp wo : Vec Ideal S1x20 .i32) (j : Fin 20) (q : Fin 24) :
    (k0_pay3 (F := Ideal) kp wo (ix2 j q) : EReal) = sel (wo (ix2 0 j)) (kept (fun i => kp (ix2 0 i)) q) := by
  pointwise [k0_pay3, k0_pay2]
  simp only [indicator]
  rfl

/-- The same product, scaled. -/
theorem scaled_apply (kp wo : Vec Ideal S1x20 .i32) (j : Fin 20) (q : Fin 24) :
    (k0_pay5 (F := Ideal) kp wo (ix2 j q) : EReal) = sel (wo (ix2 0 j)) (kept (fun i => kp (ix2 0 i)) q) * tenth := by
  pointwise [k0_pay5]
  rw [select_apply]
  rfl

/-- The folded last weight matrix from its factors. -/
theorem weights_apply (s : Vec Ideal S20x24 .f32) (w : Vec Ideal S512x20 .f32) (k : Fin 512) (q : Fin 24) :
    (k0_pay6 (F := Ideal) s w (ix2 k q) : EReal) = ∑ j : Fin 20, w (ix2 k j) * s (ix2 j q) := by
  pointwise [k0_pay6]

/-- The offsets and defaults, sent to the kept columns. -/
theorem offsets_apply (kp wo wd : Vec Ideal S1x20 .i32) (offs defs : Vec Ideal S1x20 .f32) (q : Fin 24) :
    (k0_pay4 (F := Ideal) kp wo wd offs defs (ix2 0 q) : EReal)
      = ∑ j : Fin 20, offs (ix2 0 j) * sel (wo (ix2 0 j)) (kept (fun i => kp (ix2 0 i)) q)
        + (1 - ∑ j : Fin 20, sel (wo (ix2 0 j)) (kept (fun i => kp (ix2 0 i)) q))
          * ∑ j : Fin 20, defs (ix2 0 j) * sel (wd (ix2 0 j)) (kept (fun i => kp (ix2 0 i)) q) := by
  pointwise [k0_pay4]
  simp only [select_apply, indicator, keep_onehot]
  rfl

/-- The folded last bias from its summands. -/
theorem bias_apply (o : Vec Ideal S1x24 .f32) (s : Vec Ideal S20x24 .f32) (b : Vec Ideal S1x20 .f32) (q : Fin 24) :
    (k0_pay7 (F := Ideal) o s b (ix2 0 q) : EReal) = ∑ j : Fin 20, b (ix2 0 j) * s (ix2 j q) + o (ix2 0 q) := by
  pointwise [k0_pay7]

/-- The previous actions, spread over the 256 columns of the observations, at one of their columns. -/
theorem spread_apply (p : Vec Ideal S1x20 .f32) (q : Fin 256) (h : 68 ≤ q.val ∧ q.val < 88) :
    (k0_pay8 (F := Ideal) p (ix2 0 q) : EReal) = p (ix2 0 ⟨q.val - 68, by omega⟩) := by
  pointwise [k0_pay8]
  simp only [indicator]
  exact spread (fun j => p (ix2 0 j)) q h

/-- Rounding a block to a narrower type does nothing to the exact numbers. -/
theorem rounded_9 (x : Vec Ideal S256x512 .f32) (i : Fin 256) (j : Fin 512) : (k0_pay9 (F := Ideal) x (ix2 i j) : EReal) = x (ix2 i j) := by
  pointwise [k0_pay9]
/-- The same of the second weight matrix. -/
theorem rounded_11 (x : Vec Ideal S512x512 .f32) (i : Fin 512) (j : Fin 512) :
    (k0_pay11 (F := Ideal) (k0_pay10 x) (ix2 i j) : EReal) = x (ix2 i j) := by
  pointwise [k0_pay11, k0_pay10]
/-- The same of the first bias. -/
theorem rounded_12 (x : Vec Ideal S1x512 .f32) (j : Fin 512) : (k0_pay12 (F := Ideal) x (ix2 0 j) : EReal) = x (ix2 0 j) := by
  pointwise [k0_pay12]
/-- The same of the second bias. -/
theorem rounded_13 (x : Vec Ideal S1x512 .f32) (j : Fin 512) : (k0_pay13 (F := Ideal) x (ix2 0 j) : EReal) = x (ix2 0 j) := by
  pointwise [k0_pay13]

/-- One entry of an output block, from the block's rows and the prepared arrays. -/
theorem output_apply (x : Vec Ideal S4096x256 .f32) (p : Vec Ideal S1x256 .f32) (w1 : Vec Ideal S256x512 .fp8e4m3) (b1 : Vec Ideal S1x512 .bf16)
    (w2 : Vec Ideal S512x512 .fp8e4m3) (b2 : Vec Ideal S1x512 .bf16) (w3 : Vec Ideal S512x24 .bf16) (b3 : Vec Ideal S1x24 .f32)
    (prev : Fin 20 → EReal) (hp : ∀ q : Fin 256, ∀ h : 68 ≤ q.val ∧ q.val < 88, (p (ix2 0 q) : EReal) = prev ⟨q.val - 68, by omega⟩)
    (r : Fin 4096) (q : Fin 24) :
    (k0_pay1 (F := Ideal) (k0_pay14 x p w1 b1 w2 b2 w3) b3 (ix2 r q) : EReal)
      = (∑ k : Fin 512, hiddenRow (fun q => x (ix2 r q)) prev (fun q k => w1 (ix2 q k)) (fun k => b1 (ix2 0 k))
          (fun q k => w2 (ix2 q k)) (fun k => b2 (ix2 0 k)) k * w3 (ix2 k q)) + b3 (ix2 0 q) := by
  pointwise [k0_pay1, k0_pay14]
  have row (y : Fin 256) :
      (Scalar.select (IntOp.andi (IntOp.cmpi .sge (BitVec.ofNat 32 y.val) 68#32) (IntOp.cmpi .slt (BitVec.ofNat 32 y.val) 88#32))
        (p (ix2 0 y)) (x (ix2 r y)) : EReal) = input (fun q => x (ix2 r q)) prev y := by
    have hy := y.isLt
    have e := StableHlo.Predicate.toInt_ofNat_small y.val (by omega)
    have low : (68#32).toInt = 68 := by decide
    have high : (88#32).toInt = 88 := by decide
    unfold input
    by_cases h : 68 ≤ y.val ∧ y.val < 88
    · rw [dif_pos h, ← hp y h, IntOp.andi_eq_one.2 ⟨IntOp.cmpi_sge.2 (by rw [low, e]; omega), IntOp.cmpi_slt.2 (by rw [high, e]; omega)⟩]
      rfl
    · rw [dif_neg h]
      refine if_neg fun h1 => h ?_
      obtain ⟨ha, hb⟩ := IntOp.andi_eq_one.1 h1
      have ha := IntOp.cmpi_sge.1 ha
      have hb := IntOp.cmpi_slt.1 hb
      rw [low, e] at ha
      rw [high, e] at hb
      omega
  simp only [row]
  rfl

variable (m : (ℓ : Loc nD τ sig) → Buf (Elt Ideal) ℓ)

/-- Row `r` of the network's second hidden layer. -/
def hidden (c : Dev nD) (r : Fin 16384) : Fin 512 → EReal :=
  hiddenRow (fun q => m ((c.tc : Thread nD τ).loc main_arg0) (ix2 r q)) (fun q => m ((c.tc : Thread nD τ).loc main_arg1) (ix2 0 q))
    (fun q k => m ((c.tc : Thread nD τ).loc main_arg2) (ix2 q k)) (fun k => m ((c.tc : Thread nD τ).loc main_arg3) (ix1 k))
    (fun q k => m ((c.tc : Thread nD τ).loc main_arg4) (ix2 q k)) (fun k => m ((c.tc : Thread nD τ).loc main_arg5) (ix1 k))

/-- The kernel's result at row `r` and column `q`. -/
theorem result_apply (c : Dev nD) (r : Fin 16384) (q : Fin 24) :
    (G13 m c (ix2 r q) : EReal)
      = folded (hidden m c r) (fun k j => m ((c.tc : Thread nD τ).loc main_arg6) (ix2 k j)) (fun j => m ((c.tc : Thread nD τ).loc main_arg7) (ix1 j))
          (fun j => m ((c.tc : Thread nD τ).loc main_arg10) (ix1 j)) (fun j => m ((c.tc : Thread nD τ).loc main_arg11) (ix1 j))
          (fun j => m ((c.tc : Thread nD τ).loc main_arg8) (ix1 j)) (fun j => m ((c.tc : Thread nD τ).loc main_arg9) (ix1 j))
          (kept (fun j => m ((c.tc : Thread nD τ).loc main_arg12) (ix1 j)) q) := by
  have hr : 4096 * (r.val / 4096) + r.val % 4096 < 16384 := by omega
  have er : (⟨4096 * (r.val / 4096) + r.val % 4096, hr⟩ : Fin 16384) = r := Fin.ext (Nat.div_add_mod r.val 4096)
  rw [Fold.result_block]
  unfold Fold.block
  rw [output_apply _ _ _ _ _ _ _ _ (fun j => m ((c.tc : Thread nD τ).loc main_arg1) (ix2 0 j))
    (fun q h => by rw [spread_apply _ q h, Fold.block_1])]
  unfold Fold.w3s Fold.b3s
  simp only [rounded_9, rounded_11, rounded_12, rounded_13, weights_apply, bias_apply, offsets_apply, scaled_apply,
    Fold.block_2, Fold.block_3, Fold.block_4, Fold.block_5, Fold.block_6, Fold.block_7, Fold.block_8, Fold.block_9, Fold.block_10,
    Fold.block_11, Fold.block_12]
  simp only [Fold.obs_block m c ⟨r.val / 4096, _⟩ ⟨r.val % 4096, _⟩ _ hr, er]
  rfl

end Cert.KernelIdeal.Val

end
-- ==== Proof.Equation.lean ====
/-
  The equation: on memories that agree on the arguments, and under the precondition, the reference's result is the kernel's output array.
-/
module

public import proofs.«01_k».proof.Proof.RefVal
public import proofs.«01_k».proof.Proof.KernelVal

@[expose] public section

set_option maxRecDepth 16384

noncomputable section

open Idealize.ShloMosaic Idealize.ShloMosaic.TcCoe Idealize.SL.Sem

namespace Cert.Spec

/-- The kernel's folded output for the padded kept column `q` is the chosen value for the 20 kept columns and zero for the four others. -/
theorem folded_kept (h : Fin 512 → EReal) (w3 : Fin 512 → Fin 20 → EReal) (b3 offs defs : Fin 20 → EReal) (wo wd kp : Fin 20 → BitVec 32)
    (hT : Tables wo wd kp) (q : Fin 24) :
    folded h w3 b3 offs defs wo wd (Cert.KernelIdeal.Val.kept kp q)
      = if hq : q.val < 20 then chosen (fun j => ((∑ k, h k * w3 k j) + b3 j) * tenth + offs j) defs wo wd (kp ⟨q.val, hq⟩) else 0 := by
  unfold Cert.KernelIdeal.Val.kept
  by_cases hq : q.val < 20
  · rw [dif_pos hq, dif_pos hq]
    exact folded_eq_chosen h w3 b3 offs defs wo wd _ (hT.kp_lt _) hT.wo_inj hT.wd_inj
  · rw [dif_neg hq, dif_neg hq]
    exact folded_out h w3 b3 offs defs wo wd _ (by decide)

/-- The reference's result is the kernel's output array, on every device. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_indices_valid (hPre_indices_valid := Cert.Pre_indices_valid.Gen.facts) m) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v41 (F := Ideal) m' c = Cert.KernelIdeal.Value.G13 (F := Ideal) m c := by
  have hT := tables_of_fn _ _ _ _ _ _ _ _ _ _ _ _ _ (hpre c)
  obtain ⟨e0, e1, e2, e3, e4, e5, e6, e7, e8, e9, e10, e11, e12⟩ := hagree
  have entry (r : Fin 16384) (q : Fin 24) :
      (Cert.ReferenceIdeal.Value.res_main_v41 (F := Ideal) m' c (ix2 r q) : EReal) = Cert.KernelIdeal.Value.G13 (F := Ideal) m c (ix2 r q) := by
    rw [Cert.ReferenceIdeal.Val.result_apply m' c (by rw [e8, e9, e12]; exact hT) r q, Cert.KernelIdeal.Val.result_apply m c r q,
      folded_kept _ _ _ _ _ _ _ _ hT]
    unfold Cert.ReferenceIdeal.Val.hidden Cert.KernelIdeal.Val.hidden
    rw [e0, e1, e2, e3, e4, e5, e6, e7, e8, e9, e10, e11, e12]
  funext i
  have hi : i = ix2 (i 0 : Fin 16384) (i 1 : Fin 24) := by rw [ix2_eq_valueIdx]; exact ValueIdx.eq_ix2 i
  rw [hi]
  exact entry (i 0) (i 1)

end Cert.Spec

end
-- ==== Proof.lean ====
/-
  The certificate's claim, put together: the kernel and its exact form run safely and leave their arguments unchanged, so does the
  reference, and under the precondition the kernel's exact form and the reference end with equal results.
-/
module

public import proofs.«01_k».proof.Defs
public import proofs.«01_k».proof.Proof.Gen.Kernel.Frame
public import proofs.«01_k».proof.Proof.Gen.KernelIdeal.Value
public import proofs.«01_k».proof.Proof.Gen.Pre_indices_valid
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference runs to its end with its arguments unchanged and nothing pending. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition, from memories that agree on the arguments, the kernel and the reference end with equal results. -/
theorem equal_results : algebraic_KernelIdeal_ReferenceIdeal_pre_indices_valid (hPre_indices_valid := Cert.Pre_indices_valid.Gen.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.Spec.result_eq m m' hpre c (hagree c)

/-- Everything the certificate claims. -/
theorem claim : Cert.Claim := ⟨Cert.Kernel.Gen.facts, Cert.KernelIdeal.Gen.facts, Cert.ReferenceIdeal.Gen.facts, Cert.Pre_indices_valid.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, (trivial : preserves_Kernel_KernelIdeal), equal_results⟩

end Cert.Proof

end
